-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x4096 : Shape := ⟨2, ![8192, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x4096 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 32#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_cst : FVec F S_ .f32 := constant S_ .f32 0xFF800000#32
  let main_v7 : FVec F S8192x4096 .f32 := broadcastInDim S8192x4096 ![] bcast_S_S8192x4096 main_cst
  let main_v8 : IVec S8192x4096 1 := cmpf .ogt main_arg0 main_v7
  let main_c_3 : IVec S_ 1 := constantI S_ 1 1#1
  let main_v9 : IVec S_ 1 := (fun x v => Host.reduce IntOp.andi x v reducesTo_S8192x4096_S_d0_1 h_S_) main_v8 main_c_3
  let main_v10 : IVec S_ 1 := andi main_v6 main_v9
  main_v10
-- ==== Kernel.lean ====
abbrev S8192x4096 : Shape := ⟨2, ![8192, 4096]⟩
abbrev S4096 : Shape := ⟨1, ![4096]⟩
abbrev S32x128 : Shape := ⟨2, ![32, 128]⟩
abbrev S8192x32 : Shape := ⟨2, ![8192, 32]⟩
abbrev S1024x4096 : Shape := ⟨2, ![1024, 4096]⟩
abbrev S1024x32 : Shape := ⟨2, ![1024, 32]⟩
abbrev S32x1 : Shape := ⟨2, ![32, 1]⟩
abbrev S32 : Shape := ⟨1, ![32]⟩
abbrev S128 : Shape := ⟨1, ![128]⟩
abbrev S1x128 : Shape := ⟨2, ![1, 128]⟩
abbrev S1 : Shape := ⟨1, ![1]⟩
abbrev S1x1 : Shape := ⟨2, ![1, 1]⟩
abbrev S32x128x1 : Shape := ⟨3, ![32, 128, 1]⟩
abbrev S1024x128 : Shape := ⟨2, ![1024, 128]⟩
abbrev S1024x128x1 : Shape := ⟨3, ![1024, 128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S32x128, .i32⟩
  | .hbm, ⟨3, _⟩ => ⟨S8192x32, .f32⟩
  | .hbm, ⟨4, _⟩ => ⟨S8192x32, .i32⟩
  | .local _ .vmem, ⟨0, _⟩ => ⟨S32x128, .i32⟩
  | .local _ .vmem, ⟨1, _⟩ => ⟨S1024x4096, .f32⟩
  | .local _ .vmem, ⟨2, _⟩ => ⟨S1024x4096, .f32⟩
  | .local _ .vmem, ⟨3, _⟩ => ⟨S1024x32, .f32⟩
  | .local _ .vmem, ⟨4, _⟩ => ⟨S1024x32, .f32⟩
  | .local _ .vmem, ⟨5, _⟩ => ⟨S1024x32, .i32⟩
  | .local _ .vmem, ⟨6, _⟩ => ⟨S1024x32, .i32⟩
  | .local _ .vmem, ⟨7, _⟩ => ⟨S32x128, .i32⟩
  | .local _ .vmem, ⟨8, _⟩ => ⟨S32x128, .i32⟩
  | .local _ .vmem, ⟨9, _⟩ => ⟨S32x128, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop (v658 : BitVec 32) : Scf.Loop 32 :=
  let c0_i32_137 : BitVec 32 := 0#32
  let v661 : BitVec 32 := Scalar.subi v658 c0_i32_137
  let c1_i32_138 : BitVec 32 := 1#32
  let v663 : BitVec 32 := Scalar.divsi v661 c1_i32_138
  let v664 : BitVec 32 := Scalar.muli v663 c1_i32_138
  let v665 : BitVec 32 := Scalar.addi c0_i32_137 v664
  let c1_i32_139 : BitVec 32 := 1#32
  ⟨c0_i32_137, v665, c1_i32_139⟩

@[reducible] def k0_t2_loop (v658 : BitVec 32) : Scf.Loop 32 :=
  let c0_i32_137 : BitVec 32 := 0#32
  let v661 : BitVec 32 := Scalar.subi v658 c0_i32_137
  let c1_i32_138 : BitVec 32 := 1#32
  let v663 : BitVec 32 := Scalar.divsi v661 c1_i32_138
  let v664 : BitVec 32 := Scalar.muli v663 c1_i32_138
  let v665 : BitVec 32 := Scalar.addi c0_i32_137 v664
  let v662 : BitVec 32 := Scalar.addi c0_i32_137 v661
  let c1_i32_140 : BitVec 32 := 1#32
  ⟨v665, v662, c1_i32_140⟩

def k0_chk1 (v658 : BitVec 32) : Prop :=
  ((k0_t1_loop v658).OK) ∧
  ((k0_t2_loop v658).OK)
theorem k0_t1_ok : ∀ (v658 : BitVec 32) (k0_hw1 : k0_chk1 v658), (k0_t1_loop v658).OK := fun v658 k0_hw1 => k0_hw1.1
theorem k0_t2_ok : ∀ (v658 : BitVec 32) (k0_hw1 : k0_chk1 v658), (k0_t2_loop v658).OK := fun v658 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x4096 : Shape := ⟨2, ![8192, 4096]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x32 : Shape := ⟨3, ![1, 4096, 32]⟩
abbrev S8192x4096x1 : Shape := ⟨3, ![8192, 4096, 1]⟩
abbrev S_ : Shape := ⟨0, ![]⟩
abbrev S8192x4096x32 : Shape := ⟨3, ![8192, 4096, 32]⟩
abbrev S8192x32 : Shape := ⟨2, ![8192, 32]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S32, .i32⟩
  | .hbm, ⟨3, _⟩ => ⟨S4096x1, .i32⟩
  | .hbm, ⟨4, _⟩ => ⟨S1x32, .i32⟩
  | .hbm, ⟨5, _⟩ => ⟨S4096x32, .i32⟩
  | .hbm, ⟨6, _⟩ => ⟨S4096x32, .i32⟩
  | .hbm, ⟨7, _⟩ => ⟨S4096x32, .i1⟩
  | .hbm, ⟨8, _⟩ => ⟨S1x4096x32, .i1⟩
  | .hbm, ⟨9, _⟩ => ⟨S8192x4096x1, .f32⟩
  | .hbm, ⟨10, _⟩ => ⟨S_, .f32⟩
  | .hbm, ⟨11, _⟩ => ⟨S_, .f32⟩
  | .hbm, ⟨12, _⟩ => ⟨S8192x4096x32, .i1⟩
  | .hbm, ⟨13, _⟩ => ⟨S8192x4096x32, .f32⟩
  | .hbm, ⟨14, _⟩ => ⟨S8192x4096x32, .f32⟩
  | .hbm, ⟨15, _⟩ => ⟨S8192x4096x32, .f32⟩
  | .hbm, ⟨16, _⟩ => ⟨S_, .f32⟩
  | .hbm, ⟨17, _⟩ => ⟨S8192x32, .f32⟩
  | .hbm, ⟨18, _⟩ => ⟨S8192x4096x1, .f32⟩
  | .hbm, ⟨19, _⟩ => ⟨S_, .f32⟩
  | .hbm, ⟨20, _⟩ => ⟨S_, .f32⟩
  | .hbm, ⟨21, _⟩ => ⟨S8192x4096x32, .i1⟩
  | .hbm, ⟨22, _⟩ => ⟨S8192x4096x32, .f32⟩
  | .hbm, ⟨23, _⟩ => ⟨S8192x4096x32, .f32⟩
  | .hbm, ⟨24, _⟩ => ⟨S8192x4096x32, .f32⟩
  | .hbm, ⟨25, _⟩ => ⟨S_, .f32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S8192x32, .f32⟩
  | .hbm, ⟨37, _⟩ => ⟨S_, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S8192x32, .f32⟩
  | .hbm, ⟨49, _⟩ => ⟨S8192x32, .f32⟩
  | .hbm, ⟨50, _⟩ => ⟨S_, .f32⟩
  | .hbm, ⟨51, _⟩ => ⟨S8192x32, .f32⟩
  | .hbm, ⟨52, _⟩ => ⟨S8192x32, .f32⟩
  | .hbm, ⟨53, _⟩ => ⟨S8192x32, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_c_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Proof.K.Ops.lean ====
/- What one grid point of the observer kernel computes, written as vector operations over whole tiles:
   the tables of the counting sort, the layout of the groups over the lanes, one column of the gather loop,
   one step of the segmented scan and the quantiser at the end. -/
module

public import proofs.«01_k».proof.Proof.Gen.KernelIdeal
public import Idealize.ShloMosaic.Lib.Tactic

@[expose] public section

noncomputable section

namespace Cert.Obs

open Idealize.ShloMosaic Cert.KernelIdeal

variable {F : FTy → Type} [FloatOps F]

/-- A tile of 32-bit words, 32 rows (one per column tile of the input) of 128 lanes. -/
abbrev Tile := IVec S32x128 32

/-! ## Inclusive sums along the lanes -/

/-- The lane number at every place of a tile. -/
def lanes : Tile := iota .tc S32x128 32 [1] Gen.iota_S32x128_d1_w32

/-- Add to every lane what stands `s` lanes below it, when there is such a lane. -/
def shiftAdd (s : BitVec 32) (x : Tile) : Tile :=
  addi x (select (cmpi .sge lanes (broadcast S32x128 s)) (dynamicRotate 1 s none x Gen.rotates_S32x128_d1)
    (broadcast S32x128 0#32))

/-- The inclusive sums along the lanes, by doubling. -/
def cumsum (x : Tile) : Tile :=
  shiftAdd 64#32 (shiftAdd 32#32 (shiftAdd 16#32 (shiftAdd 8#32 (shiftAdd 4#32 (shiftAdd 2#32 (shiftAdd 1#32 x))))))

/-! ## The counting sort -/

/-- A column of words spread over the lanes. -/
def across (c : IVec S32x1 32) : Tile :=
  broadcastTo S32x128 (shapeCast S32x1 c Gen.shapeCasts_S32x1_S32x1) Gen.broadcasts_S32x1_S32x128

/-- One where the key is `v`, zero elsewhere. -/
def isKey (k : Tile) (v : BitVec 32) : Tile := extui 32 (cmpi .eq k (broadcast S32x128 v)) Gen.natLt_1_32

/-- How many lanes of each row have the key `v`. -/
def countKey (k : Tile) (v : BitVec 32) : IVec S32x1 32 :=
  extractStridedSlice S32x1 ![0, 127] (cumsum (isKey k v)) Gen.slices_S32x128_o0_127_S32x1

/-- What the counting sort has found after some of the keys: the places of the lanes with those keys, the first
    place of each key, the number of lanes with each key (both in the lane the key names), the places given away. -/
structure Places where
  rank : Tile
  offs : Tile
  cnt : Tile
  used : IVec S32x1 32

/-- The counting sort goes on by the key `v`. -/
def Places.step (k : Tile) (v : BitVec 32) (t : Places) : Places where
  rank := addi t.rank (select (cmpi .eq (isKey k v) (broadcast S32x128 1#32))
    (addi (broadcastTo S32x128 t.used Gen.broadcasts_S32x1_S32x128) (subi (cumsum (isKey k v)) (isKey k v)))
    (broadcast S32x128 0#32))
  offs := addi t.offs (select (cmpi .eq lanes (broadcast S32x128 v)) (across t.used) (broadcast S32x128 0#32))
  cnt := addi t.cnt (select (cmpi .eq lanes (broadcast S32x128 v)) (across (countKey k v)) (broadcast S32x128 0#32))
  used := addi t.used (countKey k v)

/-- The counting sort after the keys below `n`. -/
def places (k : Tile) (n : ℕ) : Places :=
  Nat.rec ⟨broadcast S32x128 0#32, broadcast S32x128 0#32, broadcast S32x128 0#32, broadcast S32x1 0#32⟩
    (fun n t => t.step k (BitVec.ofNat 32 n)) n

theorem places_succ (k : Tile) (n : ℕ) : places k (n + 1) = (places k n).step k (BitVec.ofNat 32 n) := rfl

/-- The sum over each row of the lanes whose place is `l`: the lane that stands at place `l`. -/
def laneAt (rank : Tile) (l : BitVec 32) : IVec S32 32 :=
  multiReductionI .add [1] S32 (select (cmpi .eq rank (broadcast S32x128 l)) lanes (broadcast S32x128 0#32)) 0#32
    Gen.reduces_S32x128_S32 rfl

/-- The inverse of the places, the places below `n` filled in. -/
def invert (rank : Tile) (n : ℕ) : Tile :=
  Nat.rec (broadcast S32x128 0#32)
    (fun n t => addi t (select (cmpi .eq lanes (broadcast S32x128 (BitVec.ofNat 32 n)))
      (across (shapeCast S32x1 (laneAt rank (BitVec.ofNat 32 n)) Gen.shapeCasts_S32_S32x1)) (broadcast S32x128 0#32))) n

theorem invert_succ (rank : Tile) (n : ℕ) : invert rank (n + 1) =
    addi (invert rank n) (select (cmpi .eq lanes (broadcast S32x128 (BitVec.ofNat 32 n)))
      (across (shapeCast S32x1 (laneAt rank (BitVec.ofNat 32 n)) Gen.shapeCasts_S32_S32x1)) (broadcast S32x128 0#32)) := rfl

/-- The keys as they are read. -/
def keys (g : Tile) : Tile := shapeCast S32x128 g Gen.shapeCasts_S32x128_S32x128

/-- The three tables, as they are stored. -/
def invT (g : Tile) : Tile := shapeCast S32x128 (invert (places (keys g) 32).rank 128) Gen.shapeCasts_S32x128_S32x128
def offsT (g : Tile) : Tile := shapeCast S32x128 (places (keys g) 32).offs Gen.shapeCasts_S32x128_S32x128
def cntT (g : Tile) : Tile := shapeCast S32x128 (places (keys g) 32).cnt Gen.shapeCasts_S32x128_S32x128

/-! ## The layout of the groups over the lanes -/

/-- Division rounded down, place by place. -/
def floorDiv {s : Shape} (a b : IVec s 32) : IVec s 32 :=
  select (andi (cmpi .ne (subi (extui 32 (cmpi .sgt a (broadcast s 0#32)) Gen.natLt_1_32)
          (extui 32 (cmpi .slt a (broadcast s 0#32)) Gen.natLt_1_32))
        (subi (extui 32 (cmpi .sgt b (broadcast s 0#32)) Gen.natLt_1_32)
          (extui 32 (cmpi .slt b (broadcast s 0#32)) Gen.natLt_1_32)))
      (cmpi .ne (remsi a b) (broadcast s 0#32)))
    (subi (divsi a b) (broadcast s 1#32)) (divsi a b)

/-- Division by one word rounded down. -/
def floorDivW {s : Shape} (a : IVec s 32) (c : BitVec 32) : IVec s 32 :=
  select (andi (cmpi .ne (subi (extui 32 (cmpi .sgt a (broadcast s 0#32)) Gen.natLt_1_32)
          (extui 32 (cmpi .slt a (broadcast s 0#32)) Gen.natLt_1_32))
        (broadcast s (Scalar.subi (Scalar.extui (Scalar.cmpi .sgt c 0#32)) (Scalar.extui (Scalar.cmpi .slt c 0#32)))))
      (cmpi .ne (remsi a (broadcast s c)) (broadcast s 0#32)))
    (subi (divsi a (broadcast s c)) (broadcast s 1#32)) (divsi a (broadcast s c))

/-- The sum of a row. -/
def rowSum (x : IVec S1x128 32) : IVec S1x1 32 :=
  shapeCast S1x1 (multiReductionI .add [1] S1 x 0#32 Gen.reduces_S1x128_S1 rfl) Gen.shapeCasts_S1_S1x1

/-- The largest count of each key over the rows. -/
def maxRow (c : Tile) : IVec S1x128 32 :=
  shapeCast S1x128 (multiReductionI .maxsi [0] S128 c 2147483648#32 Gen.reduces_S32x128_S128 rfl) Gen.shapeCasts_S128_S1x128

def maxTile (c : Tile) : Tile :=
  broadcastTo S32x128 (shapeCast S1x128 (maxRow c) Gen.shapeCasts_S1x128_S1x128) Gen.broadcasts_S1x128_S32x128

/-- The first number of columns tried: enough by the sum of the counts. -/
def cols0 (c : Tile) : IVec S1x1 32 := floorDivW (addi (rowSum (maxRow c)) (broadcast S1x1 95#32)) 96#32

/-- Take `n` columns instead, if they hold the groups. -/
def tryCols (mc : IVec S1x128 32) (n : BitVec 32) (nc : IVec S1x1 32) : IVec S1x1 32 :=
  select (cmpi .sle (rowSum (floorDivW (subi (addi mc (broadcast S1x128 n)) (broadcast S1x128 1#32)) n))
      (broadcast S1x1 128#32))
    (minsi nc (broadcast S1x1 n)) nc

/-- The number of columns. -/
def cols (c : Tile) : IVec S1x1 32 :=
  tryCols (maxRow c) 1#32 (tryCols (maxRow c) 2#32 (tryCols (maxRow c) 3#32 (tryCols (maxRow c) 4#32
    (tryCols (maxRow c) 5#32 (tryCols (maxRow c) 6#32 (tryCols (maxRow c) 7#32 (tryCols (maxRow c) 8#32 (cols0 c))))))))

/-- One word over a whole tile. -/
def fill (w : IVec S1x1 32) : Tile :=
  broadcastTo S32x128 (shapeCast S1x1 w Gen.shapeCasts_S1x1_S1x1) Gen.broadcasts_S1x1_S32x128

/-- How many lanes each group is given. -/
def cap (c : Tile) : Tile :=
  floorDiv (subi (addi (maxTile c) (fill (cols c))) (broadcast S32x128 1#32)) (fill (cols c))

/-- The first lane of each group, from the numbers of lanes. -/
def start (cp : Tile) : Tile := subi (cumsum cp) cp

/-- The number of lanes in use. -/
def total (cp : Tile) : IVec S1x1 32 :=
  rowSum (extractStridedSlice S1x128 ![0, 0] cp Gen.slices_S32x128_o0_0_S1x128)

theorem colSlices (n : ℕ) (h : n < 32) : S32x128.Slices ![0, n] S32x1 :=
  (by decide : ∀ n < 32, S32x128.Slices ![0, n] S32x1) n h

/-- How many of the first `n` groups end at or below each lane. -/
def passed (gs cp : Tile) (n : ℕ) : n ≤ 32 → Tile :=
  Nat.rec (motive := fun n => n ≤ 32 → Tile) (fun _ => broadcast S32x128 0#32)
    (fun n t h => addi (t (Nat.le_of_succ_le h)) (extui 32 (cmpi .sge lanes (broadcastTo S32x128
      (addi (extractStridedSlice S32x1 ![0, n] gs (colSlices n h)) (extractStridedSlice S32x1 ![0, n] cp (colSlices n h)))
      Gen.broadcasts_S32x1_S32x128)) Gen.natLt_1_32)) n

theorem passed_succ (gs cp : Tile) (n : ℕ) (h : n + 1 ≤ 32) : passed gs cp (n + 1) h =
    addi (passed gs cp n (Nat.le_of_succ_le h)) (extui 32 (cmpi .sge lanes (broadcastTo S32x128
      (addi (extractStridedSlice S32x1 ![0, n] gs (colSlices n h)) (extractStridedSlice S32x1 ![0, n] cp (colSlices n h)))
      Gen.broadcasts_S32x1_S32x128)) Gen.natLt_1_32) := rfl

/-- The group each lane belongs to. -/
def label (gs cp : Tile) : Tile := minsi (passed gs cp 32 (Nat.le_refl 32)) (broadcast S32x128 31#32)

/-- Gather along the lanes: a negative index counts from the end. -/
def wrap {s : Shape} (idx : IVec s 32) : IVec s 32 :=
  select (cmpi .slt idx (broadcast s 0#32)) (addi idx (broadcast s 128#32)) idx

def take (x idx : Tile) : Tile :=
  dynamicGather 1 x (shapeCast S32x128 (shapeCast S32x128x1 (wrap idx) Gen.shapeCasts_S32x128_S32x128x1)
    Gen.shapeCasts_S32x128x1_S32x128)

/-! ## The gather loop -/

/-- A block of 1024 rows of 128 lanes. -/
abbrev Rows (F : FTy → Type) [FloatOps F] := FVec F S1024x128 .f32

theorem rowSlices (n : ℕ) (h : n < 32) : S32x128.Slices ![n, 0] S1x128 :=
  (by decide : ∀ n < 32, S32x128.Slices ![n, 0] S1x128) n h

/-- Row `t` of a tile over all rows of a block. -/
def spread {α : Type} (t : ℕ) (h : t < 32) (x : S32x128.Idx → α) : S1024x128.Idx → α :=
  broadcastTo S1024x128 (shapeCast S1x128 (extractStridedSlice S1x128 ![t, 0] x (rowSlices t h))
    Gen.shapeCasts_S1x128_S1x128) Gen.broadcasts_S1x128_S1024x128

def takeRows (x : Rows F) (idx : IVec S1024x128 32) : Rows F :=
  dynamicGather 1 x (shapeCast S1024x128 (shapeCast S1024x128x1 (wrap idx) Gen.shapeCasts_S1024x128_S1024x128x1)
    Gen.shapeCasts_S1024x128x1_S1024x128)

/-- What the gather loop reads besides the input: for each lane the length of its group's part, the lane's place in
    its group, the group's first place and count, whether the lane is in use, and the inverse of the places. -/
structure Plan where
  capl : Tile
  base : Tile
  offs : Tile
  cnt : Tile
  used : IVec S32x128 1
  inv : Tile

/-- The place within the group that a lane takes in column `j`. -/
def Plan.place (p : Plan) (j : BitVec 32) : Tile := addi (muli (broadcast S32x128 j) p.capl) p.base

/-- The input lane it reads. -/
def Plan.index (p : Plan) (j : BitVec 32) : Tile :=
  take p.inv (minsi (broadcast S32x128 127#32) (maxsi (broadcast S32x128 0#32) (addi p.offs (p.place j))))

/-- Zero where there is such a place, infinity elsewhere. -/
def Plan.pad (p : Plan) (j : BitVec 32) : FVec F S32x128 .f32 :=
  select (andi (cmpi .slt (p.place j) p.cnt) p.used) (broadcast S32x128 (Scalar.ofBits .f32 0x00000000#32))
    (broadcast S32x128 (Scalar.ofBits .f32 0x7F800000#32))

/-- Fold column tile `t`, which holds `xt`, into the running extremes. -/
def foldTile (idx : Tile) (pad : FVec F S32x128 .f32) (t : ℕ) (h : t < 32) (xt : Rows F) (acc : Rows F × Rows F) :
    Rows F × Rows F :=
  (minimumf acc.1 (addf (takeRows xt (spread t h idx)) (spread t h pad)),
   maximumf acc.2 (subf (takeRows xt (spread t h idx)) (spread t h pad)))

/-- Fold the column tiles below `n`. -/
def foldTiles (idx : Tile) (pad : FVec F S32x128 .f32) (x : (t : ℕ) → t < 32 → Rows F) (acc : Rows F × Rows F) (n : ℕ) :
    n ≤ 32 → Rows F × Rows F :=
  Nat.rec (motive := fun n => n ≤ 32 → Rows F × Rows F) (fun _ => acc)
    (fun n r h => foldTile idx pad n h (x n h) (r (Nat.le_of_succ_le h))) n

theorem foldTiles_succ (idx : Tile) (pad : FVec F S32x128 .f32) (x : (t : ℕ) → t < 32 → Rows F) (acc : Rows F × Rows F)
    (n : ℕ) (h : n + 1 ≤ 32) : foldTiles idx pad x acc (n + 1) h =
      foldTile idx pad n h (x n h) (foldTiles idx pad x acc n (Nat.le_of_succ_le h)) := rfl

/-- One trip of the loop. -/
def trip (p : Plan) (x : (t : ℕ) → t < 32 → Rows F) (j : BitVec 32) (acc : Rows F × Rows F) : Rows F × Rows F :=
  foldTiles (p.index j) (p.pad j) x acc 32 (Nat.le_refl 32)

/-- The extremes before any column. -/
def acc0 : Rows F × Rows F :=
  (broadcast S1024x128 (Scalar.ofBits .f32 0x7F800000#32), broadcast S1024x128 (Scalar.ofBits .f32 0xFF800000#32))

/-- The extremes after `n` trips. -/
def loop (p : Plan) (x : (t : ℕ) → t < 32 → Rows F) (n : ℕ) : Rows F × Rows F :=
  Nat.rec acc0 (fun n r => trip p x (Scf.iv 0#32 1#32 n) r) n

theorem loop_succ (p : Plan) (x : (t : ℕ) → t < 32 → Rows F) (n : ℕ) :
    loop p x (n + 1) = trip p x (Scf.iv 0#32 1#32 n) (loop p x n) := rfl

/-! ## The segmented scan and the quantiser -/

/-- Whether the lane `s` below has the same label. -/
def same (lab : Tile) (s : BitVec 32) : IVec S32x128 1 :=
  andi (cmpi .sge lanes (broadcast S32x128 s))
    (cmpi .eq (dynamicRotate 1 s none lab Gen.rotates_S32x128_d1) lab)

/-- The lane each lane looks at in the step of width `s`: `s` below when that lane has the same label. -/
def partner (lab : Tile) (s : BitVec 32) : Tile :=
  select (same lab s) (subi lanes (broadcast S32x128 s)) lanes

/-- Fold into every lane what the lane it looks at holds. -/
def look (at' : Tile) (acc : Rows F × Rows F) : Rows F × Rows F :=
  (minimumf acc.1 (takeRows acc.1 (spread 0 (by decide) at')),
   maximumf acc.2 (takeRows acc.2 (spread 0 (by decide) at')))

/-- The scan, its first step looking where `p` and `q` say. -/
def scanWith (p : IVec S32x128 1) (q : Tile) (lab : Tile) (acc : Rows F × Rows F) : Rows F × Rows F :=
  look (partner lab 64#32) (look (partner lab 32#32) (look (partner lab 16#32) (look (partner lab 8#32)
    (look (partner lab 4#32) (look (partner lab 2#32) (look (select p q lanes) acc))))))

def scan (lab : Tile) (acc : Rows F × Rows F) : Rows F × Rows F :=
  scanWith (same lab 1#32) (subi lanes (broadcast S32x128 1#32)) lab acc

/-- The last lane of each group. -/
def lastLane (gs cp : Tile) : Tile :=
  minsi (broadcast S32x128 127#32) (maxsi (broadcast S32x128 0#32) (subi (addi gs cp) (broadcast S32x128 1#32)))

/-- Zero where a group has members, infinity where it has none. -/
def emptyPad (mx : Tile) : FVec F S32x128 .f32 :=
  select (andi (cmpi .slt lanes (broadcast S32x128 32#32)) (cmpi .sgt mx (broadcast S32x128 0#32)))
    (broadcast S32x128 (Scalar.ofBits .f32 0x00000000#32)) (broadcast S32x128 (Scalar.ofBits .f32 0x7F800000#32))

/-- The smallest entry of each group, zero included. -/
def lowest (gs cp mx : Tile) (acc : Rows F) : FVec F S1024x32 .f32 :=
  minimumf (extractStridedSlice S1024x32 ![0, 0]
      (addf (takeRows acc (spread 0 (by decide) (lastLane gs cp))) (spread 0 (by decide) (emptyPad (F := F) mx)))
      Gen.slices_S1024x128_o0_0_S1024x32)
    (broadcast S1024x32 (Scalar.ofBits .f32 0x00000000#32))

/-- The largest entry of each group, zero included. -/
def highest (gs cp mx : Tile) (acc : Rows F) : FVec F S1024x32 .f32 :=
  maximumf (extractStridedSlice S1024x32 ![0, 0]
      (subf (takeRows acc (spread 0 (by decide) (lastLane gs cp))) (spread 0 (by decide) (emptyPad (F := F) mx)))
      Gen.slices_S1024x128_o0_0_S1024x32)
    (broadcast S1024x32 (Scalar.ofBits .f32 0x00000000#32))

/-- The plan of the loop, from the words the body has computed before it. -/
def planOf (v3 v4 v5 v6 gs : Tile) (tot : IVec S1x1 32) (lab capl : Tile) : Plan where
  capl := capl
  base := subi v3 (take gs lab)
  offs := take v5 lab
  cnt := take v4 lab
  used := cmpi .slt v3 (fill tot)
  inv := v6

/-- The group of each lane, from the counts. -/
def labels (cnt : Tile) : Tile := label (start (cap cnt)) (cap cnt)

/-- The plan of the loop, from the tables. -/
def plan (inv offs cnt : Tile) : Plan :=
  planOf lanes cnt offs inv (start (cap cnt)) (total (cap cnt)) (labels cnt) (take (cap cnt) (labels cnt))

/-- The number of columns, as one word. -/
def trips (cnt : Tile) : BitVec 32 := extractAt ![0, 0] (cols cnt) Gen.inpos_S1x1_p0_0

/-- The step of the quantiser. -/
def scaleOf (lo hi : FVec F S1024x32 .f32) : FVec F S1024x32 .f32 :=
  maximumf (divf (subf hi lo) (broadcast S1024x32 (Scalar.ofBits .f32 0x437F0000#32)))
    (broadcast S1024x32 (Scalar.ofBits .f32 0x34000000#32))

/-- The zero point of the quantiser. -/
def zeroOf (lo hi : FVec F S1024x32 .f32) : IVec S1024x32 32 :=
  fptosi 32 (minimumf (broadcast S1024x32 (Scalar.sitofp .f32 127#32))
    (maximumf (broadcast S1024x32 (Scalar.sitofp .f32 4294967168#32))
      (roundeven (subf (broadcast S1024x32 (Scalar.ofBits .f32 0xC3000000#32)) (divf lo (scaleOf lo hi))))))

/-- The smallest and the largest entries of the groups, from the extremes the scan leaves. -/
def low (cnt : Tile) (acc : Rows F × Rows F) : FVec F S1024x32 .f32 :=
  lowest (start (cap cnt)) (cap cnt) (maxTile cnt) acc.1

def high (cnt : Tile) (acc : Rows F × Rows F) : FVec F S1024x32 .f32 :=
  highest (start (cap cnt)) (cap cnt) (maxTile cnt) acc.2

end Cert.Obs

end
-- ==== Proof.K.Body.lean ====
/- The body of the kernel, with the values between its loads and stores named: the counting sort at the first grid
   point, then the layout, the gather loop, the scan and the quantiser. -/
module

public import proofs.«01_k».proof.Proof.K.Ops
public import proofs.«01_k».proof.Proof.Gen.KernelIdeal.Skeleton

@[expose] public section

noncomputable section

namespace Cert.Obs

open Idealize.ShloMosaic Idealize.SL.Sem Cert.KernelIdeal Cert.KernelIdeal.Gen

variable {F : FTy → Type} [FloatOps F]

/-- Build the tables from the keys and store them. -/
def build (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) :
    Prog (TpuEff nD τ sig (Elt F) Λ₀ .tc) PUnit := do
  let g : Vec F S32x128 .i32 ← Prog.lift (.load arg1 (Rect.unit (s := S32x128) ![0, 0] S32x128.size inb_S32x128_S32x128_0_0).toLoadRect (View.loadsAt_vmem h_S32x128))
  let _ : Vec F S32x128 .i32 ← Prog.lift (.load arg5 (Rect.unit (s := S32x128) ![0, 0] S32x128.size inb_S32x128_S32x128_0_0).toLoadRect (View.loadsAt_vmem h_S32x128))
  Prog.lift (.store arg5 (Rect.unit (s := S32x128) ![0, 0] S32x128.size inb_S32x128_S32x128_0_0) (invT g) Finset.univ (View.stores_vmem_bits_univ h_S32x128 rfl) (.inl rfl))
  let _ : Vec F S32x128 .i32 ← Prog.lift (.load arg6 (Rect.unit (s := S32x128) ![0, 0] S32x128.size inb_S32x128_S32x128_0_0).toLoadRect (View.loadsAt_vmem h_S32x128))
  Prog.lift (.store arg6 (Rect.unit (s := S32x128) ![0, 0] S32x128.size inb_S32x128_S32x128_0_0) (offsT g) Finset.univ (View.stores_vmem_bits_univ h_S32x128 rfl) (.inl rfl))
  let _ : Vec F S32x128 .i32 ← Prog.lift (.load arg7 (Rect.unit (s := S32x128) ![0, 0] S32x128.size inb_S32x128_S32x128_0_0).toLoadRect (View.loadsAt_vmem h_S32x128))
  Prog.lift (.store arg7 (Rect.unit (s := S32x128) ![0, 0] S32x128.size inb_S32x128_S32x128_0_0) (cntT g) Finset.univ (View.stores_vmem_bits_univ h_S32x128 rfl) (.inl rfl))

/-- The gather loop, with the first look of the scan. -/
def gather (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (v4 v5 v6 : Tile) :
    Prog (TpuEff nD τ sig (Elt F) Λ₀ .tc) (Σ' (v667_0 : FVec F S1024x128 .f32) (v667_1 : FVec F S1024x128 .f32) (v672 : IVec S32x128 1), IVec S32x128 32) := do
  have hw : k0_chk1 (trips v4) := (← Prog.lift (TpuEff.assume (k0_chk1 (trips v4)) (k0_chk1.dec (trips v4)))).down
  let a ← Scf.Loop.for (k0_t1_loop (trips v4)) (k0_t1_ok (trips v4) hw) (acc0 (F := F))
    (k0_t1_body i arg1 harg1 arg2 harg2 arg3 harg3 arg4 harg4 arg5 harg5 arg6 harg6 arg7 harg7 lanes v4 v5 v6 (cols v4) (start (cap v4)) (total (cap v4)) (labels v4) (take (cap v4) (labels v4)) 0#32 (trips v4) hw)
  let b ← Scf.Loop.for (k0_t2_loop (trips v4)) (k0_t2_ok (trips v4) hw) a
    (k0_t2_body i arg1 harg1 arg2 harg2 arg3 harg3 arg4 harg4 arg5 harg5 arg6 harg6 arg7 harg7 lanes v4 v5 v6 (cols v4) (start (cap v4)) (total (cap v4)) (labels v4) (take (cap v4) (labels v4)) 0#32 (trips v4) hw (k0_t1_loop (trips v4)).ub)
  pure ⟨b.1, b.2, same (labels v4) 1#32, subi lanes (broadcast S32x128 1#32)⟩

/-- Read the tables, gather and fold the columns, and store the two results. -/
def pass (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) :
    Prog (TpuEff nD τ sig (Elt F) Λ₀ .tc) PUnit := do
  let v4 : Vec F S32x128 .i32 ← Prog.lift (.load arg7 (Rect.unit (s := S32x128) ![0, 0] S32x128.size inb_S32x128_S32x128_0_0).toLoadRect (View.loadsAt_vmem h_S32x128))
  let v5 : Vec F S32x128 .i32 ← Prog.lift (.load arg6 (Rect.unit (s := S32x128) ![0, 0] S32x128.size inb_S32x128_S32x128_0_0).toLoadRect (View.loadsAt_vmem h_S32x128))
  let v6 : Vec F S32x128 .i32 ← Prog.lift (.load arg5 (Rect.unit (s := S32x128) ![0, 0] S32x128.size inb_S32x128_S32x128_0_0).toLoadRect (View.loadsAt_vmem h_S32x128))
  let ⟨lo, hi, p, q⟩ ← gather i arg1 harg1 arg2 harg2 arg3 harg3 arg4 harg4 arg5 harg5 arg6 harg6 arg7 harg7 v4 v5 v6
  let _ : Vec F S1024x32 .f32 ← Prog.lift (.load arg3 (Rect.unit (s := S1024x32) ![0, 0] S1024x32.size inb_S1024x32_S1024x32_0_0).toLoadRect (View.loadsAt_vmem h_S1024x32))
  Prog.lift (.store arg3 (Rect.unit (s := S1024x32) ![0, 0] S1024x32.size inb_S1024x32_S1024x32_0_0) (scaleOf (low v4 (scanWith p q (labels v4) (lo, hi))) (high v4 (scanWith p q (labels v4) (lo, hi)))) Finset.univ (View.stores_vmem_bits_univ h_S1024x32 rfl) (.inl rfl))
  let _ : Vec F S1024x32 .i32 ← Prog.lift (.load arg4 (Rect.unit (s := S1024x32) ![0, 0] S1024x32.size inb_S1024x32_S1024x32_0_0).toLoadRect (View.loadsAt_vmem h_S1024x32))
  Prog.lift (.store arg4 (Rect.unit (s := S1024x32) ![0, 0] S1024x32.size inb_S1024x32_S1024x32_0_0) (zeroOf (low v4 (scanWith p q (labels v4) (lo, hi))) (high v4 (scanWith p q (labels v4) (lo, hi)))) Finset.univ (View.stores_vmem_bits_univ h_S1024x32 rfl) (.inl rfl))
  pure ⟨⟩

/-- Whether the point builds the tables. -/
abbrev first (i : grid0.Coords) : Prop :=
  Scalar.cmpi .ne (Scalar.extui (Scalar.cmpi .eq (BitVec.ofNat 32 (i 0).val) 0#32)) 0#32 = 1#1

/-- Read the tables, with the first values the body computes from them. -/
def fetch (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) :
    Prog (TpuEff nD τ sig (Elt F) Λ₀ .tc) (Σ' (v3 : IVec S32x128 32) (v4 : Vec F S32x128 .i32) (v5 : Vec F S32x128 .i32)
      (v6 : Vec F S32x128 .i32) (v8 : IVec S1x128 32) (v10 : IVec S32x128 32) (v38 : IVec S1x1 32), BitVec 32) := do
  let v4 : Vec F S32x128 .i32 ← Prog.lift (.load arg7 (Rect.unit (s := S32x128) ![0, 0] S32x128.size inb_S32x128_S32x128_0_0).toLoadRect (View.loadsAt_vmem h_S32x128))
  let v5 : Vec F S32x128 .i32 ← Prog.lift (.load arg6 (Rect.unit (s := S32x128) ![0, 0] S32x128.size inb_S32x128_S32x128_0_0).toLoadRect (View.loadsAt_vmem h_S32x128))
  let v6 : Vec F S32x128 .i32 ← Prog.lift (.load arg5 (Rect.unit (s := S32x128) ![0, 0] S32x128.size inb_S32x128_S32x128_0_0).toLoadRect (View.loadsAt_vmem h_S32x128))
  pure ⟨lanes, v4, v5, v6, maxRow v4, maxTile v4, cols0 v4, 8#32⟩

theorem head_pos (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : first i) :
    k0_part115 (F := F) i arg1 harg1 arg2 harg2 arg3 harg3 arg4 harg4 arg5 harg5 arg6 harg6 arg7 harg7 = build i arg1 harg1 arg2 harg2 arg3 harg3 arg4 harg4 arg5 harg5 arg6 harg6 arg7 harg7 >>= fun _ => fetch i arg1 harg1 arg2 harg2 arg3 harg3 arg4 harg4 arg5 harg5 arg6 harg6 arg7 harg7 := by
  rw [k0_part115_eq_skeleton]
  unfold k0_part115_skel
  rw [dif_pos h]
  sl_kernel_rfl

theorem head_neg (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : ¬ first i) :
    k0_part115 (F := F) i arg1 harg1 arg2 harg2 arg3 harg3 arg4 harg4 arg5 harg5 arg6 harg6 arg7 harg7 = fetch i arg1 harg1 arg2 harg2 arg3 harg3 arg4 harg4 arg5 harg5 arg6 harg6 arg7 harg7 := by
  rw [k0_part115_eq_skeleton]
  unfold k0_part115_skel
  rw [dif_neg h]
  sl_kernel_rfl

/-- The printed body at the point that builds the tables. -/
theorem body_pos (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : first i) :
    cc0__observer_body (F := F) i arg1 harg1 arg2 harg2 arg3 harg3 arg4 harg4 arg5 harg5 arg6 harg6 arg7 harg7 = build i arg1 harg1 arg2 harg2 arg3 harg3 arg4 harg4 arg5 harg5 arg6 harg6 arg7 harg7 >>= fun _ => pass i arg1 harg1 arg2 harg2 arg3 harg3 arg4 harg4 arg5 harg5 arg6 harg6 arg7 harg7 := by
  rw [cc0__observer_body_eq_skeleton]
  unfold cc0__observer_body_skel
  rw [head_pos i arg1 harg1 arg2 harg2 arg3 harg3 arg4 harg4 arg5 harg5 arg6 harg6 arg7 harg7 h]
  sl_kernel_rfl

/-- The printed body at the other points. -/
theorem body_neg (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : ¬ first i) :
    cc0__observer_body (F := F) i arg1 harg1 arg2 harg2 arg3 harg3 arg4 harg4 arg5 harg5 arg6 harg6 arg7 harg7 = pass i arg1 harg1 arg2 harg2 arg3 harg3 arg4 harg4 arg5 harg5 arg6 harg6 arg7 harg7 := by
  rw [cc0__observer_body_eq_skeleton]
  unfold cc0__observer_body_skel
  rw [head_neg i arg1 harg1 arg2 harg2 arg3 harg3 arg4 harg4 arg5 harg5 arg6 harg6 arg7 harg7 h]
  sl_kernel_rfl

end Cert.Obs

end
-- ==== Proof.K.Trip.lean ====
/- What the gather loop leaves, over the contents of the input block: every trip folds the thirty-two column tiles. -/
module

public import proofs.«01_k».proof.Proof.K.Body
public import proofs.«01_k».proof.Proof.Gen.KernelIdeal.Loops
public import Idealize.ShloMosaic.Lib.VecWindow

@[expose] public section

noncomputable section

namespace Cert.Obs

open Idealize.ShloMosaic Idealize.SL.Sem Cert.KernelIdeal Cert.KernelIdeal.Gen

variable {F : FTy → Type} [FloatOps F]

theorem tileInb (t : ℕ) (h : t < 32) : ∀ a, (![0, 128 * t] : Fin S1024x4096.rank → ℕ) a + S1024x128.size a ≤ S1024x4096.size a :=
  (by decide : ∀ t < 32, ∀ a, (![0, 128 * t] : Fin S1024x4096.rank → ℕ) a + S1024x128.size a ≤ S1024x4096.size a) t h

/-- Column tile `t` of an input block. -/
def tileAt (x : Vec F S1024x4096 .f32) (t : ℕ) (h : t < 32) : Rows F :=
  VecWindow.window x ![0, 128 * t] S1024x128.size (tileInb t h)

/-- One trip of the loop, over the memory it reads. -/
theorem trip_eq (𝒱 : Variants) (c : Dev nD) (bd : Option 𝒱.V) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (v4 v5 v6 : Tile) (v318 : IVec S1x1 32) (v391 : Tile) (v394 : IVec S1x1 32) (v621 v629 : Tile) (v658 : BitVec 32) (hw : k0_chk1 v658)
    (X : BufTy.Contents (Elt F) arg2.view.ty) (k : Fin (k0_t1_loop v658).trips) (acc : Rows F × Rows F) :
    tripR_k0_t1 (F := F) 𝒱 c bd i arg1 harg1 arg2 harg2 arg3 harg3 arg4 harg4 arg5 harg5 arg6 harg6 arg7 harg7 lanes v4 v5 v6 v318 v391 v394 v621 v629 0#32 v658 hw X k acc
      = trip (planOf lanes v4 v5 v6 v391 v394 v621 v629) (tileAt (arg2.view.read (Elt F) X)) (Scf.iv 0#32 1#32 k) acc := by
  sl_kernel_rfl

/-- The extremes the loop carries before trip `n`. -/
theorem carried (𝒱 : Variants) (c : Dev nD) (bd : Option 𝒱.V) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (v4 v5 v6 : Tile) (v318 : IVec S1x1 32) (v391 : Tile) (v394 : IVec S1x1 32) (v621 v629 : Tile) (v658 : BitVec 32) (hw : k0_chk1 v658)
    (X : BufTy.Contents (Elt F) arg2.view.ty) (n : ℕ) (hn : n ≤ (k0_t1_loop v658).trips) :
    st_k0_t1 (F := F) 𝒱 c bd i arg1 harg1 arg2 harg2 arg3 harg3 arg4 harg4 arg5 harg5 arg6 harg6 arg7 harg7 lanes v4 v5 v6 v318 v391 v394 v621 v629 0#32 v658 hw X acc0 n
      = loop (planOf lanes v4 v5 v6 v391 v394 v621 v629) (tileAt (arg2.view.read (Elt F) X)) n := by
  induction n with
  | zero => exact st_k0_t1_zero ..
  | succ n ih =>
    have h := st_k0_t1_succ (F := F) 𝒱 c bd i arg1 harg1 arg2 harg2 arg3 harg3 arg4 harg4 arg5 harg5 arg6 harg6 arg7 harg7 lanes v4 v5 v6 v318 v391 v394 v621 v629 0#32 v658 hw X acc0 ⟨n, hn⟩
    rw [show n + 1 = (⟨n, hn⟩ : Fin (k0_t1_loop v658).trips).val + 1 from rfl, h, trip_eq, ih (Nat.le_of_succ_le hn), loop_succ]

/-- The second loop makes no trip. -/
theorem rest_eq (𝒱 : Variants) (c : Dev nD) (bd : Option 𝒱.V) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (v4 v5 v6 : Tile) (v318 : IVec S1x1 32) (v391 : Tile) (v394 : IVec S1x1 32) (v621 v629 : Tile) (v658 : BitVec 32) (hw : k0_chk1 v658)
    (X : BufTy.Contents (Elt F) arg2.view.ty) (init : Rows F × Rows F) (e : BitVec 32) :
    st_k0_t2 (F := F) 𝒱 c bd i arg1 harg1 arg2 harg2 arg3 harg3 arg4 harg4 arg5 harg5 arg6 harg6 arg7 harg7 lanes v4 v5 v6 v318 v391 v394 v621 v629 0#32 v658 hw e X init (k0_t2_loop v658).trips = init := by
  rw [Nat.le_zero.mp (k0_t2_abs v658).2.1]
  exact st_k0_t2_zero ..

end Cert.Obs

end
-- ==== Proof.K.Run.lean ====
/- The body's run: what it leaves in the results and in the tables, from the contents of its inputs. -/
module

public import proofs.«01_k».proof.Proof.K.Trip
public import proofs.«01_k».proof.Proof.Gen.KernelIdeal.Frame

@[expose] public section

set_option maxRecDepth 16384

noncomputable section

namespace Cert.Obs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The number of trips of the gather loop. -/
def tripCount (cnt : Tile) : ℕ := (k0_t1_loop (trips cnt)).trips

/-- The extremes of the groups after the scan, from the tables and an input block. -/
def extremes (inv offs cnt : Tile) (x : Vec F S1024x4096 .f32) : Rows F × Rows F :=
  scan (labels cnt) (loop (plan inv offs cnt) (tileAt x) (tripCount cnt))

/-- The two results of a grid point, from the tables and an input block. -/
def scaleBlk (inv offs cnt : Tile) (x : Vec F S1024x4096 .f32) : Vec F S1024x32 .f32 :=
  scaleOf (low cnt (extremes inv offs cnt x)) (high cnt (extremes inv offs cnt x))

def zeroBlk (inv offs cnt : Tile) (x : Vec F S1024x4096 .f32) : Vec F S1024x32 .i32 :=
  zeroOf (low cnt (extremes inv offs cnt x)) (high cnt (extremes inv offs cnt x))

/-- Building the tables leaves them in the three scratch buffers. -/
theorem run_build (c : Dev nD) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (g : Vec F S32x128 .i32) (E : Set ℕ) (K : PUnit → sProp 𝕄) :
    iprop(owns (c : Thread nD τ) arg1 fullShare g ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare g ∗ owns (c : Thread nD τ) arg5 fullShare (invT g)
            ∗ owns (c : Thread nD τ) arg6 fullShare (offsT g) ∗ owns (c : Thread nD τ) arg7 fullShare (cntT g)) -∗ K ⟨⟩))
      ⊢ wp frame (wpE (defs₀ (F := F)) Variants.none c none) E (build i arg1 harg1 arg2 harg2 arg3 harg3 arg4 harg4 arg5 harg5 arg6 harg6 arg7 harg7) K := by
  unfold build
  unfold owns
  iintro ⟨⟨%f0, %hf0, H0⟩, ⟨%d5, %f5, -, H5⟩, ⟨%d6, %f6, -, H6⟩, ⟨%d7, %f7, -, H7⟩, Hk⟩
  sl_exec
  sl_step
  iapply Hk
  isplitl [H0]
  · iexists _; isplitr; · ipureintro; exact hf0
    iexact H0
  isplitl [H5]
  · iexists _; isplitr; swap; · iexact H5
    ipureintro; rw [View.read_writes_full]; rw [View.readAt_full, hf0]
  isplitl [H6]
  · iexists _; isplitr; swap; · iexact H6
    ipureintro; rw [View.read_writes_full]; rw [View.readAt_full, hf0]
  iexists _; isplitr; swap; · iexact H7
  ipureintro; rw [View.read_writes_full]; rw [View.readAt_full, hf0]

/-- The gather loop leaves the extremes it has folded. -/
theorem run_gather (c : Dev nD) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (x : Vec F S1024x4096 .f32) (inv offs cnt : Tile) (E : Set ℕ)
    (K : (Σ' (v667_0 : FVec F S1024x128 .f32) (v667_1 : FVec F S1024x128 .f32) (v672 : IVec S32x128 1), IVec S32x128 32) → sProp 𝕄) :
    iprop(owns (c : Thread nD τ) arg2 fullShare x
        ∗ (owns (c : Thread nD τ) arg2 fullShare x -∗
            K ⟨(loop (plan inv offs cnt) (tileAt x) (tripCount cnt)).1, (loop (plan inv offs cnt) (tileAt x) (tripCount cnt)).2,
              same (labels cnt) 1#32, subi lanes (broadcast S32x128 1#32)⟩))
      ⊢ wp frame (wpE (defs₀ (F := F)) Variants.none c none) E (gather i arg1 harg1 arg2 harg2 arg3 harg3 arg4 harg4 arg5 harg5 arg6 harg6 arg7 harg7 cnt offs inv) K := by
  unfold gather owns
  iintro ⟨⟨%f2, %hf2, H2⟩, Hk⟩
  sl_exec
  sl_step
  rw [rest_eq, carried (hn := Nat.le_refl _)]
  subst hf2
  unfold plan tripCount
  iapply Hk
  iexists _; isplitr; · ipureintro; rfl
  iexact H2

/-- An effect followed by a continuation. -/
theorem lift_bind {α : Type} {β : Type} (e : TpuEff nD τ sig (Elt F) Λ₀ .tc α) (k : α → Prog (TpuEff nD τ sig (Elt F) Λ₀ .tc) β) :
    (Prog.lift e >>= k) = Prog.op e k := rfl

/-- A pass over an input block leaves the two results, and the tables as they were. -/
theorem run_pass (c : Dev nD) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (x : Vec F S1024x4096 .f32) (inv offs cnt : Tile) (E : Set ℕ) (K : PUnit → sProp 𝕄) :
    iprop(owns (c : Thread nD τ) arg2 fullShare x ∗ (∃ d, owns (c : Thread nD τ) arg3 fullShare d)
        ∗ (∃ d, owns (c : Thread nD τ) arg4 fullShare d) ∗ owns (c : Thread nD τ) arg5 fullShare inv
        ∗ owns (c : Thread nD τ) arg6 fullShare offs ∗ owns (c : Thread nD τ) arg7 fullShare cnt
        ∗ (iprop(owns (c : Thread nD τ) arg2 fullShare x ∗ owns (c : Thread nD τ) arg3 fullShare (scaleBlk inv offs cnt x)
            ∗ owns (c : Thread nD τ) arg4 fullShare (zeroBlk inv offs cnt x) ∗ owns (c : Thread nD τ) arg5 fullShare inv
            ∗ owns (c : Thread nD τ) arg6 fullShare offs ∗ owns (c : Thread nD τ) arg7 fullShare cnt) -∗ K ⟨⟩))
      ⊢ wp frame (wpE (defs₀ (F := F)) Variants.none c none) E (pass i arg1 harg1 arg2 harg2 arg3 harg3 arg4 harg4 arg5 harg5 arg6 harg6 arg7 harg7) K := by
  unfold pass owns
  iintro ⟨⟨%f2, %hf2, H2⟩, ⟨%d3, %f3, -, H3⟩, ⟨%d4, %f4, -, H4⟩, ⟨%f5, %hf5, H5⟩, ⟨%f6, %hf6, H6⟩, ⟨%f7, %hf7, H7⟩, Hk⟩
  rw [lift_bind]; sl_step
  rw [lift_bind]; sl_step
  rw [lift_bind]; sl_step
  rw [View.readAt_full, View.readAt_full, View.readAt_full, hf5, hf6, hf7]
  rw [wp_bind]
  iapply (run_gather c i arg1 harg1 arg2 harg2 arg3 harg3 arg4 harg4 arg5 harg5 arg6 harg6 arg7 harg7 x inv offs cnt E _)
  isplitl [H2]
  · unfold owns
    iexists _; isplitr; · ipureintro; exact hf2
    iexact H2
  unfold owns
  iintro ⟨%g2, %hg2, H2⟩
  sl_exec
  sl_step
  iapply Hk
  isplitl [H2]
  · iexists _; isplitr; · ipureintro; exact hg2
    iexact H2
  isplitl [H3]
  · iexists _; isplitr; swap; · iexact H3
    ipureintro; rw [View.read_writes_full]; unfold scaleBlk extremes scan; rw [Prod.mk.eta]
  isplitl [H4]
  · iexists _; isplitr; swap; · iexact H4
    ipureintro; rw [View.read_writes_full]; unfold zeroBlk extremes scan; rw [Prod.mk.eta]
  isplitl [H5]
  · iexists _; isplitr; · ipureintro; exact hf5
    iexact H5
  isplitl [H6]
  · iexists _; isplitr; · ipureintro; exact hf6
    iexact H6
  iexists _; isplitr; · ipureintro; exact hf7
  iexact H7

/-- The body at the point that builds the tables. -/
theorem run_first (c : Dev nD) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : first i) (g : Vec F S32x128 .i32) (x : Vec F S1024x4096 .f32) (E : Set ℕ) (K : PUnit → sProp 𝕄) :
    iprop(owns (c : Thread nD τ) arg1 fullShare g ∗ owns (c : Thread nD τ) arg2 fullShare x
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare g ∗ owns (c : Thread nD τ) arg2 fullShare x
            ∗ owns (c : Thread nD τ) arg3 fullShare (scaleBlk (invT g) (offsT g) (cntT g) x)
            ∗ owns (c : Thread nD τ) arg4 fullShare (zeroBlk (invT g) (offsT g) (cntT g) x)
            ∗ owns (c : Thread nD τ) arg5 fullShare (invT g) ∗ owns (c : Thread nD τ) arg6 fullShare (offsT g)
            ∗ owns (c : Thread nD τ) arg7 fullShare (cntT g)) -∗ K ⟨⟩))
      ⊢ wp frame (wpE (defs₀ (F := F)) Variants.none c none) E (cc0__observer_body i arg1 harg1 arg2 harg2 arg3 harg3 arg4 harg4 arg5 harg5 arg6 harg6 arg7 harg7) K := by
  rw [body_pos i arg1 harg1 arg2 harg2 arg3 harg3 arg4 harg4 arg5 harg5 arg6 harg6 arg7 harg7 h, wp_bind]
  iintro ⟨H1, H2, H3, H4, H5, H6, H7, Hk⟩
  iapply (run_build c i arg1 harg1 arg2 harg2 arg3 harg3 arg4 harg4 arg5 harg5 arg6 harg6 arg7 harg7 g E _)
  isplitl [H1]; · iexact H1
  isplitl [H5]; · iexact H5
  isplitl [H6]; · iexact H6
  isplitl [H7]; · iexact H7
  iintro ⟨H1, H5, H6, H7⟩
  iapply (run_pass c i arg1 harg1 arg2 harg2 arg3 harg3 arg4 harg4 arg5 harg5 arg6 harg6 arg7 harg7 x (invT g) (offsT g) (cntT g) E K)
  isplitl [H2]; · iexact H2
  isplitl [H3]; · iexact H3
  isplitl [H4]; · iexact H4
  isplitl [H5]; · iexact H5
  isplitl [H6]; · iexact H6
  isplitl [H7]; · iexact H7
  iintro ⟨H2, H3, H4, H5, H6, H7⟩
  iapply Hk
  isplitl [H1]; · iexact H1
  isplitl [H2]; · iexact H2
  isplitl [H3]; · iexact H3
  isplitl [H4]; · iexact H4
  isplitl [H5]; · iexact H5
  isplitl [H6]; · iexact H6
  iexact H7

/-- The body at the other points. -/
theorem run_next (c : Dev nD) (i : grid0.Coords) (arg1 : Memref sig .tc .vmem S32x128 .i32) (harg1 : arg1.IsWhole) (arg2 : Memref sig .tc .vmem S1024x4096 .f32) (harg2 : arg2.IsWhole) (arg3 : Memref sig .tc .vmem S1024x32 .f32) (harg3 : arg3.IsWhole) (arg4 : Memref sig .tc .vmem S1024x32 .i32) (harg4 : arg4.IsWhole) (arg5 : Memref sig .tc .vmem S32x128 .i32) (harg5 : arg5.IsWhole) (arg6 : Memref sig .tc .vmem S32x128 .i32) (harg6 : arg6.IsWhole) (arg7 : Memref sig .tc .vmem S32x128 .i32) (harg7 : arg7.IsWhole) (h : ¬ first i) (g : Vec F S32x128 .i32) (x : Vec F S1024x4096 .f32) (inv offs cnt : Tile)
    (E : Set ℕ) (K : PUnit → sProp 𝕄) :
    iprop(owns (c : Thread nD τ) arg1 fullShare g ∗ owns (c : Thread nD τ) arg2 fullShare x
        ∗ (∃ d, owns (c : Thread nD τ) arg3 fullShare d) ∗ (∃ d, owns (c : Thread nD τ) arg4 fullShare d)
        ∗ owns (c : Thread nD τ) arg5 fullShare inv ∗ owns (c : Thread nD τ) arg6 fullShare offs
        ∗ owns (c : Thread nD τ) arg7 fullShare cnt
        ∗ (iprop(owns (c : Thread nD τ) arg1 fullShare g ∗ owns (c : Thread nD τ) arg2 fullShare x
            ∗ owns (c : Thread nD τ) arg3 fullShare (scaleBlk inv offs cnt x)
            ∗ owns (c : Thread nD τ) arg4 fullShare (zeroBlk inv offs cnt x)
            ∗ owns (c : Thread nD τ) arg5 fullShare inv ∗ owns (c : Thread nD τ) arg6 fullShare offs
            ∗ owns (c : Thread nD τ) arg7 fullShare cnt) -∗ K ⟨⟩))
      ⊢ wp frame (wpE (defs₀ (F := F)) Variants.none c none) E (cc0__observer_body i arg1 harg1 arg2 harg2 arg3 harg3 arg4 harg4 arg5 harg5 arg6 harg6 arg7 harg7) K := by
  rw [body_neg i arg1 harg1 arg2 harg2 arg3 harg3 arg4 harg4 arg5 harg5 arg6 harg6 arg7 harg7 h]
  iintro ⟨H1, H2, H3, H4, H5, H6, H7, Hk⟩
  iapply (run_pass c i arg1 harg1 arg2 harg2 arg3 harg3 arg4 harg4 arg5 harg5 arg6 harg6 arg7 harg7 x inv offs cnt E K)
  isplitl [H2]; · iexact H2
  isplitl [H3]; · iexact H3
  isplitl [H4]; · iexact H4
  isplitl [H5]; · iexact H5
  isplitl [H6]; · iexact H6
  isplitl [H7]; · iexact H7
  iintro ⟨H2, H3, H4, H5, H6, H7⟩
  iapply Hk
  isplitl [H1]; · iexact H1
  isplitl [H2]; · iexact H2
  isplitl [H3]; · iexact H3
  isplitl [H4]; · iexact H4
  isplitl [H5]; · iexact H5
  isplitl [H6]; · iexact H6
  iexact H7

end Cert.Obs

end
-- ==== Proof.K.Frame.lean ====
/- The frame of the kernel: every run ends, leaves the inputs as they were and every counter at zero, and leaves in
   the results what the body computes from the blocks it is given. -/
module

public import proofs.«01_k».proof.Proof.K.Run
public import Idealize.ShloMosaic.Lib.Pipeline.FrameBody
public import Idealize.ShloMosaic.Lib.WordCmp
public import Idealize.ShloMosaic.Lib.Claim

@[expose] public section

set_option maxRecDepth 16384

noncomputable section

namespace Cert.Obs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body builds its tables at the first point only. -/
theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  have h : first (grid0.coords t) ↔ t.val % 8 = 0 := by
    simp only [first, e0]
    word_cmp
  rw [h]; omega

/-- The staging buffers at a point. -/
abbrev ms0_0 (t : Fin cfg0.N) : Memref sig .tc .vmem S32x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .i32 := win0_3.stage (cfg0.slots t 3)
abbrev hs0_3 (t : Fin cfg0.N) : (ms0_3 t).IsWhole := hstage0_3 ((cfg0.slots t 3).cast nbuf0_3)
/-- The scratch buffers. -/
abbrev scM0_0 : Memref sig .tc .vmem S32x128 .i32 := Memref.whole cc0_scratch0
abbrev scM0_1 : Memref sig .tc .vmem S32x128 .i32 := Memref.whole cc0_scratch1
abbrev scM0_2 : Memref sig .tc .vmem S32x128 .i32 := Memref.whole cc0_scratch2
/-- The scratch buffers at anything, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The group indices, as the first point finds them. -/
def g0 (c : Dev nD) : Vec F S32x128 .i32 := iblk m c 0 ⟨0, by rw [show cfg0.N = 8 from N_0]; decide⟩

/-- The tables in the scratch buffers. -/
def tables (c : Dev nD) : sProp 𝕄 :=
  iprop(iprop(owns (c : Thread nD τ) scM0_0 fullShare (invT (g0 m c)) ∗ owns (c : Thread nD τ) scM0_1 fullShare (offsT (g0 m c))
    ∗ owns (c : Thread nD τ) scM0_2 fullShare (cntT (g0 m c))) ∗ (∃ r, prngReg c r))

/-- Before the first point the scratch buffers hold anything; after it, the tables. -/
def PhiS (c : Dev nD) : (n : ℕ) → n ≤ cfg0.N → sProp 𝕄
  | 0, _ => Pipeline.ΦA spec0 c
  | _ + 1, _ => tables m c

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = tables m c := by
  cases n with
  | zero => exact absurd rfl hz
  | succ n => rfl

/-- What each point leaves in the buffers of the windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => scaleBlk (invT (g0 m c)) (offsT (g0 m c)) (cntT (g0 m c)) (iblk m c 1 t)
    | ⟨3, _⟩ => zeroBlk (invT (g0 m c)) (offsT (g0 m c)) (cntT (g0 m c)) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = scaleBlk (invT (g0 m c)) (offsT (g0 m c)) (cntT (g0 m c)) (iblk m c 1 t) := by dsimp only [dats]
theorem after0_3 (c : Dev nD) (t : Fin cfg0.N) :
    (dats m 0 c).after 3 t = zeroBlk (invT (g0 m c)) (offsT (g0 m c)) (cntT (g0 m c)) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3]
  rw [show (dats m 0 c).Φ t.succ = tables m c from rfl, PhiS_castSucc m c t]
  by_cases hz : t.val = 0
  · have hg : g0 m c = iblk m c 0 t := by
      unfold g0; congr 1
    rw [PhiS_zero m c _ _ hz, PhiA0_eq]
    unfold tables
    rw [hg]
    iintro ⟨⟨⟨HS0, HS1, HS2⟩, Hg⟩, Ho, ⟨%d0, H0⟩, ⟨%d1, H1⟩, ⟨%d2, H2⟩, ⟨%d3, H3⟩⟩
    iapply (run_first c (grid0.coords t) _ _ _ _ _ _ _ _ _ _ _ _ _ _ ((first_iff t).mpr hz) (iblk m c 0 t) (iblk m c 1 t) Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · rw [PhiS_pos m c _ _ hz]
    unfold tables
    iintro ⟨⟨⟨HS0, HS1, HS2⟩, Hg⟩, Ho, ⟨%d0, H0⟩, ⟨%d1, H1⟩, ⟨%d2, H2⟩, ⟨%d3, H3⟩⟩
    iapply (run_next c (grid0.coords t) _ _ _ _ _ _ _ _ _ _ _ _ _ _ (fun h => hz ((first_iff t).mp h)) (iblk m c 0 t) (iblk m c 1 t) (invT (g0 m c)) (offsT (g0 m c)) (cntT (g0 m c)) Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

/-- The body keeps its side of the pipeline at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the tables are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  unfold tables
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: what the arrays end with, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Obs

end
-- ==== Proof.K.Twin.lean ====
/- The frame of the kernel as compiled: the idealized kernel is the same program, so its frame is the same statement. -/
module

public import proofs.«01_k».proof.Proof.K.Frame
public import proofs.«01_k».proof.Proof.Gen.Kernel

@[expose] public section

set_option maxRecDepth 16384

noncomputable section

namespace Cert.Obs

open Idealize.ShloMosaic Idealize.ShloMosaic.TcCoe Idealize.ShloMosaic.Tactic Idealize.SL.Sem

variable (F : FTy → Type) [FloatOps F]

/-- Every run of the kernel ends, its arguments unchanged and every counter at zero. -/
def FrameKernel : Prop := ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

/-- The same of the idealized kernel. -/
def FrameIdeal : Prop := ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frames_same : FrameKernel F = FrameIdeal F := by
  sl_kernel_rfl

theorem frame_kernel : FrameKernel F := (frames_same F).mpr fun m ρ => frame_ideal m ρ

end Cert.Obs

end
-- ==== Proof.K.Words.lean ====
/- Words that hold natural numbers: the operations of the kernel on words whose values stay below the sign bit are the
   operations on the numbers. -/
module

public import Idealize.ShloMosaic.Lib.Pointwise
public import Idealize.ShloMosaic.Lib.WordCmp

@[expose] public section

namespace Cert.Obs

open Idealize.ShloMosaic Idealize.ShloMosaic.WordCmp

theorem sub_word {a b : ℕ} (h : b ≤ a) : IntOp.subi (BitVec.ofNat 32 a) (BitVec.ofNat 32 b) = BitVec.ofNat 32 (a - b) := by
  unfold IntOp.subi
  obtain ⟨c, rfl⟩ := Nat.exists_eq_add_of_le h
  rw [BitVec.ofNat_add, Nat.add_sub_cancel_left, BitVec.add_comm, BitVec.add_sub_cancel]

theorem min_word {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_ofNat_of_lt (by simpa using ha), toInt_ofNat_of_lt (by simpa using hb)]
  by_cases h : a < b
  · simp [h, Nat.min_eq_left h.le]
  · simp [h, Nat.min_eq_right (not_lt.1 h)]

theorem max_word {a b : ℕ} (ha : a < 2 ^ 31) (hb : b < 2 ^ 31) :
    IntOp.maxsi (BitVec.ofNat 32 a) (BitVec.ofNat 32 b) = BitVec.ofNat 32 (max a b) := by
  unfold IntOp.maxsi
  rw [BitVec.slt_eq_decide, toInt_ofNat_of_lt (by simpa using hb), toInt_ofNat_of_lt (by simpa using ha)]
  by_cases h : b < a
  · simp [h, Nat.max_eq_left h.le]
  · simp [h, Nat.max_eq_right (not_lt.1 h)]

theorem sum_word {ι : Type} (S : Finset ι) (f : ι → ℕ) :
    S.fold IntOp.addi 0#32 (fun x => BitVec.ofNat 32 (f x)) = BitVec.ofNat 32 (∑ x ∈ S, f x) := by
  induction S using Finset.cons_induction with
  | empty => rfl
  | cons a S ha ih => rw [Finset.fold_cons, ih, Finset.sum_cons, addi_ofNat]

/-- The largest of some words, from the least word on. -/
theorem sup_word {ι : Type} (S : Finset ι) (hS : S.Nonempty) (f : ι → ℕ) (h : ∀ x, f x < 2 ^ 31) :
    S.fold IntOp.maxsi 2147483648#32 (fun x => BitVec.ofNat 32 (f x)) = BitVec.ofNat 32 (S.sup f) := by
  induction hS using Finset.Nonempty.cons_induction with
  | singleton a =>
    rw [Finset.fold_singleton, Finset.sup_singleton]
    unfold IntOp.maxsi
    have e : (BitVec.ofNat 32 (f a)).toInt = f a := toInt_ofNat_of_lt (by simpa using h a)
    have m : (2147483648#32).toInt < 0 := by decide
    rw [BitVec.slt_eq_decide, e, if_pos]
    exact decide_eq_true (lt_of_lt_of_le m (Int.natCast_nonneg _))
  | cons a S ha hS ih =>
    have hs : S.sup f < 2 ^ 31 := (Finset.sup_lt_iff (by simp)).2 fun x _ => h x
    rw [Finset.fold_cons, ih, Finset.sup_cons, max_word (h a) hs]

theorem div_word {a b : ℕ} (ha : a < 2 ^ 31) (h0 : 0 < b) (hb : b < 2 ^ 31) (u : ArithUnit) :
    IntOp.divsi u (BitVec.ofNat 32 a) (BitVec.ofNat 32 b) = BitVec.ofNat 32 (a / b)
      ∧ IntOp.remsi u (BitVec.ofNat 32 a) (BitVec.ofNat 32 b) = BitVec.ofNat 32 (a % b) := by
  have ea : (BitVec.ofNat 32 a).toNat = a := toNat_ofNat_of_lt (by omega)
  have eb : (BitVec.ofNat 32 b).toNat = b := toNat_ofNat_of_lt (by omega)
  have ma : (BitVec.ofNat 32 a).msb = false := by rw [BitVec.msb_eq_decide, ea]; exact decide_eq_false (by simp; omega)
  have mb : (BitVec.ofNat 32 b).msb = false := by rw [BitVec.msb_eq_decide, eb]; exact decide_eq_false (by simp; omega)
  have hc : ¬ IntOp.SDivCorner (BitVec.ofNat 32 a) (BitVec.ofNat 32 b) := by
    rintro (h | ⟨h, -⟩)
    · have := congrArg BitVec.toNat h; rw [eb] at this; simp at this; omega
    · have := congrArg BitVec.toNat h; rw [ea, BitVec.toNat_intMin] at this; simp at this; omega
  have hd := Nat.div_le_self a b
  have hr := Nat.mod_le a b
  unfold IntOp.divsi IntOp.remsi
  rw [if_neg hc, if_neg hc]
  unfold BitVec.sdiv BitVec.srem
  rw [ma, mb]
  constructor <;> apply BitVec.eq_of_toNat_eq
  · show (BitVec.ofNat 32 a / BitVec.ofNat 32 b).toNat = _
    rw [BitVec.toNat_udiv, ea, eb, toNat_ofNat_of_lt (by omega)]
  · show (BitVec.ofNat 32 a % BitVec.ofNat 32 b).toNat = _
    rw [BitVec.toNat_umod, ea, eb, toNat_ofNat_of_lt (by omega)]

/-- The sign of a positive word. -/
theorem sign_word {b : ℕ} (h0 : 0 < b) (hb : b < 2 ^ 31) :
    IntOp.subi (BitVec.setWidth 32 (IntOp.cmpi .sgt (BitVec.ofNat 32 b) 0#32))
      (BitVec.setWidth 32 (IntOp.cmpi .slt (BitVec.ofNat 32 b) 0#32)) = 1#32 := by
  rw [show (0#32) = BitVec.ofNat 32 0 from rfl, cmpi_sgt_ofNat (by simpa using hb) (by simp),
    cmpi_slt_ofNat (by simpa using hb) (by simp), decide_eq_true h0, decide_eq_false (Nat.not_lt_zero b)]
  rfl

/-- Division rounded down, as the kernel spells it, where nothing is negative. -/
theorem floorDiv_word {a b : ℕ} (ha : a < 2 ^ 31) (h0 : 0 < b) (hb : b < 2 ^ 31) {s : BitVec 32} (hs : s = 1#32) :
    Scalar.select (IntOp.andi
        (IntOp.cmpi .ne (IntOp.subi (BitVec.setWidth 32 (IntOp.cmpi .sgt (BitVec.ofNat 32 a) 0#32))
          (BitVec.setWidth 32 (IntOp.cmpi .slt (BitVec.ofNat 32 a) 0#32))) s)
        (IntOp.cmpi .ne (IntOp.remsi .vector (BitVec.ofNat 32 a) (BitVec.ofNat 32 b)) 0#32))
      (IntOp.subi (IntOp.divsi .vector (BitVec.ofNat 32 a) (BitVec.ofNat 32 b)) 1#32)
      (IntOp.divsi .vector (BitVec.ofNat 32 a) (BitVec.ofNat 32 b)) = BitVec.ofNat 32 (a / b) := by
  subst hs
  rw [(div_word ha h0 hb _).1, (div_word ha h0 hb _).2]
  rcases Nat.eq_zero_or_pos a with rfl | h
  · rw [Nat.zero_mod, Nat.zero_div]; rfl
  · rw [sign_word h ha]
    have : IntOp.cmpi .ne 1#32 1#32 = 0#1 := rfl
    rw [this, show IntOp.andi 0#1 (IntOp.cmpi .ne (BitVec.ofNat 32 (a % b)) 0#32) = 0#1 from BitVec.zero_and]
    rfl

/-- A place below 128, as a gather reads it: the wrapping of negative places does nothing. -/
theorem wrap_word {a : ℕ} (ha : a < 128) :
    (Scalar.select (IntOp.cmpi .slt (BitVec.ofNat 32 a) 0#32) (IntOp.addi (BitVec.ofNat 32 a) 128#32)
      (BitVec.ofNat 32 a)).toNat % 128 = a := by
  rw [show (0#32) = BitVec.ofNat 32 0 from rfl, cmpi_slt_ofNat (by simp; omega) (by simp), select_decide,
    if_neg (Nat.not_lt_zero a), toNat_ofNat_of_lt (by omega), Nat.mod_eq_of_lt ha]

/-- A rotation by less than the extent. -/
theorem rot_word {l s : ℕ} (hs : s < 128) (h : s ≤ l) (hl : l < 128) :
    (l + 128 - (BitVec.ofNat 32 s).toNat % 128) % 128 = l - s := by
  rw [toNat_ofNat_of_lt (by omega)]; omega

end Cert.Obs

end
-- ==== Proof.K.Counting.lean ====
/- The counting sort of 128 lanes by their keys, over the natural numbers: the place of a lane is the number of lanes
   with smaller keys plus the number of earlier lanes with the same key, and the places are the numbers below 128, each
   once. -/
module

public import Mathlib.Algebra.BigOperators.Group.Finset.Basic
public import Mathlib.Algebra.BigOperators.Group.Finset.Piecewise
public import Mathlib.Algebra.Order.BigOperators.Group.Finset
public import Mathlib.Data.Fintype.EquivFin
public import Mathlib.Tactic.Linarith

@[expose] public section

namespace Cert.Obs

open Finset

variable (k : ℕ → ℕ)

/-- How many lanes have the key `v`. -/
def number (v : ℕ) : ℕ := #{l ∈ range 128 | k l = v}

/-- How many lanes have a key below `v`. -/
def smaller (v : ℕ) : ℕ := #{l ∈ range 128 | k l < v}

/-- How many lanes below `l` have its key. -/
def earlier (l : ℕ) : ℕ := #{l' ∈ range l | k l' = k l}

/-- The place of a lane. -/
def placeOf (l : ℕ) : ℕ := smaller k (k l) + earlier k l

/-- The lane at a place. -/
def atPlace (p : ℕ) : ℕ := ∑ l ∈ range 128, if placeOf k l = p then l else 0

theorem smaller_zero : smaller k 0 = 0 := by simp [smaller]

theorem smaller_succ (v : ℕ) : smaller k (v + 1) = smaller k v + number k v := by
  unfold smaller number
  rw [← card_union_of_disjoint (disjoint_filter.2 fun l _ h => by omega), ← filter_or]
  congr 1
  exact filter_congr fun l _ => by omega

theorem smaller_le (v : ℕ) : smaller k v ≤ 128 := (card_filter_le _ _).trans (card_range 128).le

theorem number_le (v : ℕ) : number k v ≤ 128 := (card_filter_le _ _).trans (card_range 128).le

theorem smaller_mono : Monotone (smaller k) := monotone_nat_of_le_succ fun v => by rw [smaller_succ]; omega

theorem number_pos {l : ℕ} (hl : l < 128) : 0 < number k (k l) := card_pos.2 ⟨l, by simp [hl]⟩

theorem earlier_lt {l l' : ℕ} (h : l < l') (hk : k l = k l') : earlier k l < earlier k l' := by
  unfold earlier
  refine card_lt_card ⟨fun x hx => ?_, fun hs => ?_⟩
  · simp only [mem_filter, mem_range] at hx ⊢; omega
  · have := hs (show l ∈ _ by simp [h, hk]); simp at this

theorem earlier_lt_number {l : ℕ} (hl : l < 128) : earlier k l < number k (k l) := by
  unfold earlier number
  refine card_lt_card ⟨fun x hx => ?_, fun hs => ?_⟩
  · simp only [mem_filter, mem_range] at hx ⊢; omega
  · have := hs (show l ∈ _ by simp [hl]); simp at this

theorem placeOf_lt {l : ℕ} (hl : l < 128) : placeOf k l < smaller k (k l + 1) := by
  have := earlier_lt_number k hl
  rw [smaller_succ]; unfold placeOf; omega

theorem placeOf_inj {l l' : ℕ} (hl : l < 128) (hl' : l' < 128) (h : placeOf k l = placeOf k l') : l = l' := by
  have key : ∀ a b, a < 128 → placeOf k a = placeOf k b → ¬ k a < k b := fun a b ha e hlt => by
    have h1 := placeOf_lt k ha
    have h2 := smaller_mono k (show k a + 1 ≤ k b from hlt)
    have h3 : smaller k (k b) ≤ placeOf k b := Nat.le_add_right _ _
    omega
  have e : k l = k l' := by
    have := key l l' hl h; have := key l' l hl' h.symm; omega
  have e' : earlier k l = earlier k l' := by unfold placeOf at h; rw [e] at h; omega
  rcases lt_trichotomy l l' with c | c | c
  · have := earlier_lt k c e; omega
  · exact c
  · have := earlier_lt k c e.symm; omega

theorem placeOf_lt_128 {l : ℕ} (hl : l < 128) : placeOf k l < 128 := (placeOf_lt k hl).trans_le (smaller_le k _)

theorem exists_placeOf {p : ℕ} (hp : p < 128) : ∃ l < 128, placeOf k l = p := by
  have hs : Function.Surjective fun l : Fin 128 => (⟨placeOf k l, placeOf_lt_128 k l.isLt⟩ : Fin 128) :=
    Finite.surjective_of_injective fun a b h => Fin.ext (placeOf_inj k a.isLt b.isLt (Fin.mk.inj_iff.1 h))
  obtain ⟨l, hl⟩ := hs ⟨p, hp⟩
  exact ⟨l, l.isLt, Fin.mk.inj_iff.1 hl⟩

theorem atPlace_placeOf {l : ℕ} (hl : l < 128) : atPlace k (placeOf k l) = l := by
  unfold atPlace
  rw [sum_eq_single l, if_pos rfl]
  · intro b hb hne
    exact if_neg fun e => hne (placeOf_inj k (mem_range.1 hb) hl e)
  · intro h; exact absurd (mem_range.2 hl) h

theorem atPlace_lt {p : ℕ} (hp : p < 128) : atPlace k p < 128 := by
  obtain ⟨l, hl, rfl⟩ := exists_placeOf k hp
  rwa [atPlace_placeOf k hl]

/-- The places from the first one of a key on hold lanes with that key. -/
theorem key_atPlace {v o : ℕ} (ho : o < number k v) : k (atPlace k (smaller k v + o)) = v := by
  have hp : smaller k v + o < smaller k (v + 1) := by rw [smaller_succ]; omega
  obtain ⟨l, hl, e⟩ := exists_placeOf k (hp.trans_le (smaller_le k _))
  rw [← e, atPlace_placeOf k hl]
  have h1 := placeOf_lt k hl
  have h2 : smaller k (k l) ≤ placeOf k l := Nat.le_add_right _ _
  rcases lt_trichotomy (k l) v with c | c | c
  · have := smaller_mono k (show k l + 1 ≤ v from c); omega
  · exact c
  · have := smaller_mono k (show v + 1 ≤ k l from c); omega

/-- Every lane with a key stands at one of them. -/
theorem atPlace_earlier {l : ℕ} (hl : l < 128) : atPlace k (smaller k (k l) + earlier k l) = l := atPlace_placeOf k hl

/-- The lanes with a key, counted up to and with `l`. -/
theorem sum_same (l : ℕ) (v : ℕ) : (∑ i ∈ range (l + 1), if k i = v then 1 else 0) = #{i ∈ range (l + 1) | k i = v} := by
  rw [card_filter]

theorem sum_same_self (l : ℕ) : (∑ i ∈ range (l + 1), if k i = k l then 1 else 0) = earlier k l + 1 := by
  rw [sum_range_succ, if_pos rfl, earlier, card_filter]

theorem sum_number (h : ∀ l < 128, k l < 32) : ∑ v ∈ range 32, number k v = 128 := by
  have : ∀ n, ∑ v ∈ range n, number k v = smaller k n := fun n => by
    induction n with
    | zero => rw [smaller_zero]; rfl
    | succ n ih => rw [sum_range_succ, ih, smaller_succ]
  rw [this, smaller, filter_true_of_mem fun l hl => h l (mem_range.1 hl), card_range]

theorem number_eq_zero {v : ℕ} (h : ∀ l < 128, k l ≠ v) : number k v = 0 :=
  card_eq_zero.2 (filter_eq_empty_iff.2 fun l hl => h l (mem_range.1 hl))

end Cert.Obs

end
-- ==== Proof.K.Tables.lean ====
/- The tables of the counting sort, row by row: the sums along the lanes are sums of numbers, and the three tables hold
   the lane at every place, the first place of every key and the number of lanes with every key. -/
module

public import proofs.«01_k».proof.Proof.K.Ops
public import proofs.«01_k».proof.Proof.K.Words
public import proofs.«01_k».proof.Proof.K.Counting

@[expose] public section

set_option maxRecDepth 16384

noncomputable section

namespace Cert.Obs

open Idealize.ShloMosaic Idealize.ShloMosaic.WordCmp Cert.KernelIdeal Finset

/-- Row `t` of a tile holds the numbers `a`. -/
def Holds (x : Tile) (t : Fin 32) (a : ℕ → ℕ) : Prop := ∀ l : Fin 128, x (ix2 t l) = BitVec.ofNat 32 (a l)

theorem Holds.congr {x : Tile} {t : Fin 32} {a b : ℕ → ℕ} (h : Holds x t a) (e : ∀ l < 128, a l = b l) : Holds x t b :=
  fun l => by rw [h l, e l l.isLt]

/-! ## Sums along the lanes -/

/-- The sum of the `w` entries that end at `l`, or of all of them if there are fewer. -/
def lastSum (a : ℕ → ℕ) (w l : ℕ) : ℕ := ∑ i ∈ range (min w (l + 1)), a (l - i)

theorem lastSum_double (a : ℕ → ℕ) (w l : ℕ) :
    lastSum a (2 * w) l = lastSum a w l + if w ≤ l then lastSum a w (l - w) else 0 := by
  unfold lastSum
  by_cases h : w ≤ l
  · rw [if_pos h, show min (2 * w) (l + 1) = w + min w (l - w + 1) by omega, show min w (l + 1) = w by omega, sum_range_add]
    congr 1
    exact sum_congr rfl fun i _ => by rw [Nat.sub_sub]
  · rw [if_neg h, show min (2 * w) (l + 1) = min w (l + 1) by omega]; rfl

theorem lanes_at (t : Fin 32) (l : Fin 128) : lanes (ix2 t l) = BitVec.ofNat 32 l := by pointwise [lanes]

theorem rotate_at (x : Tile) {w : ℕ} (hw : w < 128) (t : Fin 32) (l : Fin 128) (c : w ≤ (l : ℕ)) :
    dynamicRotate 1 (BitVec.ofNat 32 w) none x Gen.rotates_S32x128_d1 (ix2 t l)
      = x (ix2 t ⟨l - w, (Nat.sub_le _ _).trans_lt l.isLt⟩) := by
  pointwise
  exact congrArg (fun i => x (ix2 t i)) (Fin.ext (rot_word hw c l.isLt))

theorem shiftAdd_holds {x : Tile} {t : Fin 32} {a : ℕ → ℕ} (w : ℕ) (hw : w < 128) (h : Holds x t (lastSum a w)) :
    Holds (shiftAdd (BitVec.ofNat 32 w) x) t (lastSum a (2 * w)) := fun l => by
  have hl := l.isLt
  show IntOp.addi (x (ix2 t l)) (Scalar.select (IntOp.cmpi .sge (lanes (ix2 t l)) (BitVec.ofNat 32 w))
    (dynamicRotate 1 (BitVec.ofNat 32 w) none x Gen.rotates_S32x128_d1 (ix2 t l)) 0#32) = _
  rw [lastSum_double, lanes_at, h l, cmpi_sge_ofNat (by simp; omega) (by simp; omega), select_decide]
  by_cases c : w ≤ (l : ℕ)
  · rw [if_pos c, if_pos c, rotate_at x hw t l c, h, addi_ofNat]
  · rw [if_neg c, if_neg c]; exact addi_ofNat _ 0

theorem cumsum_holds {x : Tile} {t : Fin 32} {a : ℕ → ℕ} (h : Holds x t a) :
    Holds (cumsum x) t fun l => ∑ i ∈ range (l + 1), a i := by
  have h1 : Holds x t (lastSum a 1) := h.congr fun l _ => by simp [lastSum]
  have h7 := shiftAdd_holds 64 (by omega) (shiftAdd_holds 32 (by omega) (shiftAdd_holds 16 (by omega)
    (shiftAdd_holds 8 (by omega) (shiftAdd_holds 4 (by omega) (shiftAdd_holds 2 (by omega)
      (shiftAdd_holds 1 (by omega) h1))))))
  refine Holds.congr h7 fun l hl => ?_
  unfold lastSum
  rw [show min (2 * 64) (l + 1) = l + 1 by omega, sum_range_reflect' a l]
where
  sum_range_reflect' (a : ℕ → ℕ) (l : ℕ) : ∑ i ∈ range (l + 1), a (l - i) = ∑ i ∈ range (l + 1), a i := by
    simpa using sum_range_reflect a (l + 1)

/-! ## The counting sort -/

variable {k : Tile} {t : Fin 32} {κ : ℕ → ℕ}

theorem isKey_holds (h : Holds k t κ) (hκ : ∀ l < 128, κ l < 32) {v : ℕ} (hv : v < 32) :
    Holds (isKey k (BitVec.ofNat 32 v)) t fun l => if κ l = v then 1 else 0 := fun l => by
  have := hκ l l.isLt
  pointwise [isKey]
  rw [h l, cmpi_eq_ofNat (by omega) (by omega)]
  by_cases c : κ l = v
  · simp [c]
  · simp [c]

theorem countKey_eq (h : Holds k t κ) (hκ : ∀ l < 128, κ l < 32) {v : ℕ} (hv : v < 32) :
    countKey k (BitVec.ofNat 32 v) (ix2 t 0) = BitVec.ofNat 32 (number κ v) := by
  pointwise [countKey]
  rw [cumsum_holds (isKey_holds h hκ hv)]
  exact congrArg _ (sum_same κ 127 v)

/-- What the counting sort has found after the keys below `n`. -/
structure Sorted (p : Places) (t : Fin 32) (κ : ℕ → ℕ) (n : ℕ) : Prop where
  rank : Holds p.rank t fun l => if κ l < n then placeOf κ l else 0
  offs : Holds p.offs t fun v => if v < n then smaller κ v else 0
  cnt : Holds p.cnt t fun v => if v < n then number κ v else 0
  used : p.used (ix2 t 0) = BitVec.ofNat 32 (smaller κ n)

/-- What stands in the lanes below `n`, and in lane `n` next. -/
theorem put_word (f : ℕ → ℕ) {n l : ℕ} (hn : n < 128) (hl : l < 128) :
    IntOp.addi (BitVec.ofNat 32 (if l < n then f l else 0))
      (Scalar.select (IntOp.cmpi .eq (BitVec.ofNat 32 l) (BitVec.ofNat 32 n)) (BitVec.ofNat 32 (f n)) 0#32)
      = BitVec.ofNat 32 (if l < n + 1 then f l else 0) := by
  rw [cmpi_eq_ofNat (by omega) (by omega), select_decide]
  rcases lt_trichotomy l n with c | c | c
  · rw [if_pos c, if_neg c.ne, if_pos (by omega)]; exact addi_ofNat _ 0
  · subst c; rw [if_neg (lt_irrefl _), if_pos rfl, if_pos (by omega), addi_ofNat, Nat.zero_add]
  · rw [if_neg c.not_gt, if_neg c.ne', if_neg (by omega)]; rfl

/-- Nothing stands anywhere before the first lane. -/
theorem put_zero (f : ℕ → ℕ) (l : ℕ) : (0#32) = BitVec.ofNat 32 (if l < 0 then f l else 0) := by
  rw [if_neg (Nat.not_lt_zero l)]

theorem sorted_places (h : Holds k t κ) (hκ : ∀ l < 128, κ l < 32) (n : ℕ) (hn : n ≤ 32) : Sorted (places k n) t κ n := by
  induction n with
  | zero =>
    refine ⟨fun l => ?_, fun l => put_zero _ _, fun l => put_zero _ _, ?_⟩
    · exact (congrArg (BitVec.ofNat 32) (if_neg (Nat.not_lt_zero _))).symm
    · rw [smaller_zero]; rfl
  | succ n ih =>
    have ih := ih (by omega)
    have hv : n < 32 := by omega
    rw [places_succ]
    refine ⟨fun l => ?_, fun l => ?_, fun l => ?_, ?_⟩
    · have hl := l.isLt
      pointwise [Places.step]
      rw [ih.rank l, ih.used, isKey_holds h hκ hv l, cumsum_holds (isKey_holds h hκ hv) l]
      beta_reduce
      by_cases c : κ l = n
      · subst c
        rw [if_pos rfl, sum_same_self, if_neg (lt_irrefl _), if_pos (Nat.lt_succ_self _), sub_word (by omega), addi_ofNat,
          Nat.add_sub_cancel]
        exact (addi_ofNat 0 _).trans (congrArg _ (Nat.zero_add _))
      · rw [if_neg c]
        have e : (if κ l < n + 1 then placeOf κ l else 0) = if κ l < n then placeOf κ l else 0 := by
          by_cases d : κ l < n
          · rw [if_pos d, if_pos (by omega)]
          · rw [if_neg d, if_neg (by omega)]
        rw [e]
        exact addi_ofNat _ 0
    · have hl := l.isLt
      pointwise [Places.step, lanes, across]
      rw [ih.offs l, ih.used]
      exact put_word _ (by omega) hl
    · have hl := l.isLt
      pointwise [Places.step, lanes, across]
      rw [ih.cnt l, countKey_eq h hκ hv]
      exact put_word _ (by omega) hl
    · pointwise [Places.step]
      rw [ih.used, countKey_eq h hκ hv, smaller_succ, addi_ofNat]

/-- The keys below 32 done, every lane has its place. -/
theorem rank_holds (h : Holds k t κ) (hκ : ∀ l < 128, κ l < 32) : Holds (places k 32).rank t (placeOf κ) :=
  (sorted_places h hκ 32 le_rfl).rank.congr fun l hl => if_pos (hκ l hl)

theorem laneAt_eq {r : Tile} (hr : Holds r t (placeOf κ)) {n : ℕ} (hn : n < 128) :
    laneAt r (BitVec.ofNat 32 n) (ix1 t) = BitVec.ofNat 32 (atPlace κ n) := by
  pointwise [laneAt, lanes]
  have e : ∀ l : Fin 128, Scalar.select (IntOp.cmpi .eq (r (ix2 t l)) (BitVec.ofNat 32 n)) (BitVec.ofNat 32 ↑l) 0#32
      = BitVec.ofNat 32 (if placeOf κ l = n then l else 0) := fun l => by
    have hp := placeOf_lt_128 κ l.isLt
    rw [hr l, cmpi_eq_ofNat (by omega) (by omega), select_decide]
    split_ifs <;> rfl
  rw [show (fun l : Fin 128 => Scalar.select (IntOp.cmpi .eq (r (ix2 t l)) (BitVec.ofNat 32 n)) (BitVec.ofNat 32 ↑l) 0#32) = _
    from funext e, sum_word, atPlace, ← Fin.sum_univ_eq_sum_range (fun l => if placeOf κ l = n then l else 0) 128]

theorem invert_holds {r : Tile} (hr : Holds r t (placeOf κ)) (n : ℕ) (hn : n ≤ 128) :
    Holds (invert r n) t fun p => if p < n then atPlace κ p else 0 := by
  induction n with
  | zero => exact fun l => put_zero _ _
  | succ n ih =>
    intro l
    have hl := l.isLt
    rw [invert_succ]
    pointwise [lanes, across]
    exact (congrArg₂ (fun a b => IntOp.addi a (Scalar.select _ b _)) (ih (by omega) l) (laneAt_eq hr (by omega))).trans
      (put_word _ (by omega) hl)

/-! ## The tables as they are stored -/

variable {g : Tile}

theorem keys_holds (h : Holds g t κ) : Holds (keys g) t κ := fun l => by
  pointwise [keys]; exact h l

theorem invT_holds (h : Holds g t κ) (hκ : ∀ l < 128, κ l < 32) : Holds (invT g) t (atPlace κ) := fun l => by
  pointwise [invT]
  exact (invert_holds (rank_holds (keys_holds h) hκ) 128 le_rfl l).trans (congrArg _ (if_pos l.isLt))

theorem offsT_holds (h : Holds g t κ) (hκ : ∀ l < 128, κ l < 32) :
    Holds (offsT g) t fun v => if v < 32 then smaller κ v else 0 := fun l => by
  pointwise [offsT]
  exact (sorted_places (keys_holds h) hκ 32 le_rfl).offs l

theorem cntT_holds (h : Holds g t κ) (hκ : ∀ l < 128, κ l < 32) :
    Holds (cntT g) t fun v => if v < 32 then number κ v else 0 := fun l => by
  pointwise [cntT]
  exact (sorted_places (keys_holds h) hκ 32 le_rfl).cnt l

end Cert.Obs

end
-- ==== Proof.K.Groups.lean ====
/- The layout of the groups over the lanes, over the natural numbers: with `n` columns a group whose largest count in a
   tile is `m` is given `⌈m / n⌉` lanes next to each other. Every lane of every tile is then read once, by a lane of its
   own group. -/
module

public import proofs.«01_k».proof.Proof.K.Counting
public import Mathlib.Tactic.Ring

@[expose] public section

namespace Cert.Obs

open Finset

variable (m : ℕ → ℕ) (n : ℕ)

/-- How many lanes a group is given. -/
def share (v : ℕ) : ℕ := (m v + n - 1) / n

/-- The first lane of a group. -/
def front (v : ℕ) : ℕ := ∑ u ∈ range v, share m n u

/-- The group of a lane. -/
def group (l : ℕ) : ℕ := min #{v ∈ range 32 | front m n (v + 1) ≤ l} 31

/-- What the layout needs of the counts and of the number of columns. -/
structure Fits : Prop where
  pos : 0 < n
  few : n ≤ 4096
  small : ∀ v, m v ≤ 128
  none : ∀ v, 32 ≤ v → m v = 0
  sum : front m n 128 ≤ 128

variable {m n}

theorem share_zero (hn : 0 < n) {v : ℕ} (h : m v = 0) : share m n v = 0 := by
  unfold share; rw [h]; exact Nat.div_eq_of_lt (by omega)

theorem le_share (hn : 0 < n) (v : ℕ) : m v ≤ n * share m n v := by
  unfold share
  have h1 := Nat.div_add_mod (m v + n - 1) n
  have h2 := Nat.mod_lt (m v + n - 1) hn
  omega

theorem share_le (hn : 0 < n) (v : ℕ) : share m n v ≤ m v := by
  unfold share
  rcases Nat.eq_zero_or_pos (m v) with h | h
  · rw [h]; exact (Nat.div_eq_of_lt (by omega)).le
  · refine Nat.div_le_of_le_mul ?_
    obtain ⟨a, ha⟩ := Nat.exists_eq_succ_of_ne_zero h.ne'
    obtain ⟨b, hb⟩ := Nat.exists_eq_succ_of_ne_zero hn.ne'
    have e : n * m v = a * b + a + b + 1 := by rw [ha, hb, Nat.succ_eq_add_one, Nat.succ_eq_add_one]; ring
    omega

theorem share_pos (hn : 0 < n) {v : ℕ} (h : 0 < m v) : 0 < share m n v := by
  refine Nat.pos_of_ne_zero fun e => ?_
  have := le_share (m := m) hn v
  rw [e] at this; omega

theorem front_succ (v : ℕ) : front m n (v + 1) = front m n v + share m n v := sum_range_succ _ _

theorem front_mono : Monotone (front m n) := monotone_nat_of_le_succ fun v => by rw [front_succ]; omega

theorem front_32 (hn : 0 < n) (h : ∀ v, 32 ≤ v → m v = 0) : front m n 32 = front m n 128 := by
  unfold front
  refine sum_subset (fun v hv => ?_) fun v _ hv => share_zero hn (h v ?_)
  · simp only [mem_range] at hv ⊢; omega
  · simp only [mem_range] at hv; omega

theorem front_32_le (h : Fits m n) : front m n 32 ≤ 128 := (front_32 h.pos h.none).trans_le h.sum

theorem fit_bound {f S : ℕ} (hn : 0 < n) (h : n * f + 32 ≤ S + 32 * n) (hs : S ≤ 96 * n) : f ≤ 128 :=
  Nat.le_of_mul_le_mul_left (show n * f ≤ n * 128 by omega) hn

/-- With enough columns for the sum of the counts the groups fit. -/
theorem first_le_of_sum (hn : 0 < n) (h : ∀ v, 32 ≤ v → m v = 0) (hs : ∑ v ∈ range 128, m v ≤ 96 * n) :
    front m n 128 ≤ 128 := by
  have key : ∀ b : ℕ, n * front m n b + b ≤ ∑ v ∈ range b, m v + b * n := fun b => by
    induction b with
    | zero => simp [front]
    | succ b ih =>
      have hd : n * share m n b ≤ m b + n - 1 := Nat.mul_div_le (m b + n - 1) n
      have hd' : n * share m n b + 1 ≤ m b + n := by omega
      rw [front_succ, sum_range_succ, Nat.mul_add, Nat.add_mul]
      linarith
  have h32 := key 32
  have hs' : ∑ v ∈ range 32, m v ≤ ∑ v ∈ range 128, m v :=
    sum_le_sum_of_subset fun v hv => by simp only [mem_range] at hv ⊢; omega
  rw [← front_32 hn h]
  exact fit_bound hn h32 (hs'.trans hs)

theorem group_lt (l : ℕ) : group m n l < 32 := by unfold group; omega

theorem group_mono {l l' : ℕ} (h : l ≤ l') : group m n l ≤ group m n l' := by
  unfold group
  refine min_le_min_right _ (card_le_card fun v hv => ?_)
  simp only [mem_filter] at hv ⊢
  exact ⟨hv.1, hv.2.trans h⟩

/-- The lanes of group `v`. -/
theorem group_eq {v l : ℕ} (hv : v < 32) (h1 : front m n v ≤ l) (h2 : l < front m n (v + 1)) : group m n l = v := by
  have e : {u ∈ range 32 | front m n (u + 1) ≤ l} = range v := by
    ext u
    simp only [mem_filter, mem_range]
    constructor
    · rintro ⟨-, h⟩
      by_contra c
      have := front_mono (m := m) (n := n) (show v + 1 ≤ u + 1 by omega)
      omega
    · intro h
      exact ⟨by omega, (front_mono (m := m) (n := n) (show u + 1 ≤ v from h)).trans h1⟩
  unfold group
  rw [e, card_range]; omega

theorem exists_group {l : ℕ} : ∀ b, l < front m n b → ∃ v < b, front m n v ≤ l ∧ l < front m n (v + 1) := fun b => by
  induction b with
  | zero => intro h; simp [front] at h
  | succ b ih =>
    intro h
    by_cases c : l < front m n b
    · obtain ⟨v, hv, h'⟩ := ih c; exact ⟨v, by omega, h'⟩
    · exact ⟨b, by omega, by omega, h⟩

theorem group_spec {l : ℕ} (h : l < front m n 32) : front m n (group m n l) ≤ l ∧ l < front m n (group m n l + 1) := by
  obtain ⟨v, hv, h1, h2⟩ := exists_group 32 h
  rw [group_eq hv h1 h2]; exact ⟨h1, h2⟩

theorem front_group_le (l : ℕ) : front m n (group m n l) ≤ l := by
  by_cases h : l < front m n 32
  · exact (group_spec h).1
  · exact (front_mono (m := m) (n := n) (group_lt l).le).trans (not_lt.1 h)

/-! ## What each lane reads -/

variable (m n) (κ : ℕ → ℕ)

/-- The place within its group that a lane takes in column `j`. -/
def slot (j l : ℕ) : ℕ := j * share m n (group m n l) + (l - front m n (group m n l))

/-- Whether there is such a place in a tile with the keys `κ`. -/
def Valid (j l : ℕ) : Prop := slot m n j l < number κ (group m n l) ∧ l < front m n 32

instance (j l : ℕ) : Decidable (Valid m n κ j l) := inferInstanceAs (Decidable (_ ∧ _))

/-- The lane of the tile that is read. -/
def source (j l : ℕ) : ℕ := atPlace κ (min 127 (smaller κ (group m n l) + slot m n j l))

variable {m n} {κ}

theorem source_lt (j l : ℕ) : source m n κ j l < 128 := atPlace_lt κ (by omega)

/-- It belongs to the group of the lane that reads it. -/
theorem key_source {j l : ℕ} (h : Valid m n κ j l) : κ (source m n κ j l) = group m n l := by
  have h1 := smaller_le κ (group m n l + 1)
  have h2 := h.1
  rw [smaller_succ] at h1
  unfold source
  rw [show min 127 (smaller κ (group m n l) + slot m n j l) = smaller κ (group m n l) + slot m n j l by omega]
  exact key_atPlace κ h.1

/-- Every lane is read. -/
theorem exists_source (h : Fits m n) (hκ : ∀ l < 128, κ l < 32) (hm : ∀ v < 32, number κ v ≤ m v) {c : ℕ} (hc : c < 128) :
    ∃ l < 128, ∃ j < n, Valid m n κ j l ∧ group m n l = κ c ∧ source m n κ j l = c := by
  have hv := hκ c hc
  have ho := earlier_lt_number κ hc
  have hs := le_share (m := m) h.pos (κ c)
  have hp : 0 < share m n (κ c) := share_pos h.pos ((number_pos κ hc).trans_le (hm _ hv))
  have hb := Nat.mod_lt (earlier κ c) hp
  have hl : front m n (κ c) + earlier κ c % share m n (κ c) < front m n (κ c + 1) := by rw [front_succ]; omega
  have hl' := hl.trans_le (front_mono (m := m) (n := n) (show κ c + 1 ≤ 32 from hv))
  have hg := group_eq hv (Nat.le_add_right _ _) hl
  have e : slot m n (earlier κ c / share m n (κ c)) (front m n (κ c) + earlier κ c % share m n (κ c)) = earlier κ c := by
    unfold slot
    rw [hg, Nat.add_sub_cancel_left, Nat.mul_comm, Nat.div_add_mod]
  refine ⟨_, hl'.trans_le (front_32_le h), earlier κ c / share m n (κ c), ?_, ⟨?_, hl'⟩, hg, ?_⟩
  · refine Nat.div_lt_of_lt_mul ?_
    have := hm _ hv
    rw [Nat.mul_comm]; omega
  · rw [e, hg]; exact ho
  · have h1 := placeOf_lt_128 κ hc
    unfold placeOf at h1
    unfold source
    rw [e, hg, min_eq_right (by omega)]
    exact atPlace_earlier κ hc

/-- The last lane of a group with members belongs to it. -/
theorem group_last {v : ℕ} (h : Fits m n) (hv : v < 32) (hm : 0 < m v) :
    front m n (v + 1) - 1 < front m n 32 ∧ group m n (front m n (v + 1) - 1) = v := by
  have hp := share_pos h.pos hm
  have e := front_succ (m := m) (n := n) v
  have := front_mono (m := m) (n := n) (show v + 1 ≤ 32 from hv)
  exact ⟨by omega, group_eq hv (by omega) (by omega)⟩

end Cert.Obs

end
-- ==== Proof.K.Layout.lean ====
/- The layout of the groups, as the kernel computes it from the counts: the number of columns it settles on lets the
   groups fit, and the lanes each group is given, the first of them and the label of every lane are the numbers of the
   layout. -/
module

public import proofs.«01_k».proof.Proof.K.Tables
public import proofs.«01_k».proof.Proof.K.Groups

@[expose] public section

set_option maxRecDepth 16384

noncomputable section

namespace Cert.Obs

open Idealize.ShloMosaic Idealize.ShloMosaic.WordCmp Cert.KernelIdeal Finset

/-- The largest count of a key over the tiles. -/
def top (cs : Fin 32 → ℕ → ℕ) (v : ℕ) : ℕ := univ.sup fun t => cs t v

theorem le_top (cs : Fin 32 → ℕ → ℕ) (t : Fin 32) (v : ℕ) : cs t v ≤ top cs v :=
  Finset.le_sup (f := fun t => cs t v) (mem_univ t)

/-- The counts, as the kernel has them: one number per key, at most 128, none past the last key. -/
structure Counts (c : Tile) (cs : Fin 32 → ℕ → ℕ) : Prop where
  holds : ∀ t, Holds c t (cs t)
  small : ∀ t v, cs t v ≤ 128
  none : ∀ t v, 32 ≤ v → cs t v = 0
  some : 0 < ∑ v ∈ range 128, top cs v

variable {c : Tile} {cs : Fin 32 → ℕ → ℕ}

theorem Counts.top_small (h : Counts c cs) (v : ℕ) : top cs v ≤ 128 := Finset.sup_le fun t _ => h.small t v

theorem Counts.top_none (h : Counts c cs) (v : ℕ) (hv : 32 ≤ v) : top cs v = 0 :=
  Nat.le_zero.1 (Finset.sup_le fun t _ => (h.none t v hv).le)

theorem maxRow_at (h : Counts c cs) (l : Fin 128) : maxRow c (ix2 0 l) = BitVec.ofNat 32 (top cs l) := by
  pointwise [maxRow]
  rw [show (fun t : Fin 32 => c (ix2 t l)) = fun t => BitVec.ofNat 32 (cs t l) from funext fun t => h.holds t l]
  exact sup_word univ ⟨0, mem_univ _⟩ (fun t => cs t l) fun t => (h.small t l).trans_lt (by omega)

theorem maxTile_holds (h : Counts c cs) (t : Fin 32) : Holds (maxTile c) t (top cs) := fun l => by
  pointwise [maxTile]
  exact maxRow_at h l

theorem rowSum_at {x : IVec S1x128 32} {f : ℕ → ℕ} (h : ∀ l : Fin 128, x (ix2 0 l) = BitVec.ofNat 32 (f l)) :
    rowSum x (ix2 0 0) = BitVec.ofNat 32 (∑ l ∈ range 128, f l) := by
  pointwise [rowSum]
  rw [show (fun l : Fin 128 => x (ix2 0 l)) = fun l : Fin 128 => BitVec.ofNat 32 (f l) from funext h, sum_word,
    ← Fin.sum_univ_eq_sum_range f 128]

theorem floorDivW_at {s : Shape} (a : IVec s 32) (i : s.Idx) {x b : ℕ} (ha : a i = BitVec.ofNat 32 x) (hx : x < 2 ^ 31)
    (h0 : 0 < b) (hb : b < 2 ^ 31) : floorDivW a (BitVec.ofNat 32 b) i = BitVec.ofNat 32 (x / b) := by
  have h := floorDiv_word hx h0 hb (sign_word h0 hb)
  rw [← ha] at h
  exact h

theorem floorDiv_at {s : Shape} (a b : IVec s 32) (i : s.Idx) {x y : ℕ} (ha : a i = BitVec.ofNat 32 x)
    (hb : b i = BitVec.ofNat 32 y) (hx : x < 2 ^ 31) (h0 : 0 < y) (hy : y < 2 ^ 31) :
    floorDiv a b i = BitVec.ofNat 32 (x / y) := by
  have h := floorDiv_word hx h0 hy (sign_word h0 hy)
  rw [← ha, ← hb] at h
  exact h

/-! ## The number of columns -/

theorem sum_top_le (h : Counts c cs) : ∑ v ∈ range 128, top cs v ≤ 128 * 128 :=
  (sum_le_card_nsmul _ _ 128 fun v _ => h.top_small v).trans (by rw [card_range]; rfl)

theorem cols0_fits (h : Counts c cs) : ∃ n, cols0 c (ix2 0 0) = BitVec.ofNat 32 n ∧ Fits (top cs) n := by
  have hs := sum_top_le h
  have hp := h.some
  refine ⟨(∑ v ∈ range 128, top cs v + 95) / 96, ?_, ⟨by omega, by omega, h.top_small, h.top_none,
    first_le_of_sum (by omega) h.top_none (by omega)⟩⟩
  refine floorDivW_at _ _ ?_ (by omega) (by omega) (by omega)
  show IntOp.addi (rowSum (maxRow c) (ix2 0 0)) 95#32 = _
  rw [rowSum_at (maxRow_at h)]
  exact addi_ofNat _ 95

theorem tryCols_fits {m : ℕ → ℕ} {mc : IVec S1x128 32} (hmc : ∀ l : Fin 128, mc (ix2 0 l) = BitVec.ofNat 32 (m l)) {n : ℕ}
    (hn : 0 < n) (hn' : n ≤ 8) {nc : IVec S1x1 32} (h : ∃ N, nc (ix2 0 0) = BitVec.ofNat 32 N ∧ Fits m N) :
    ∃ N, tryCols mc (BitVec.ofNat 32 n) nc (ix2 0 0) = BitVec.ofNat 32 N ∧ Fits m N := by
  obtain ⟨N, e, F⟩ := h
  have hf : front m n 128 ≤ 128 * 128 := (sum_le_card_nsmul _ _ 128 fun v _ => (share_le hn v).trans (F.small v)).trans
    (by rw [card_range]; rfl)
  have hr : rowSum (floorDivW (subi (addi mc (broadcast S1x128 (BitVec.ofNat 32 n))) (broadcast S1x128 1#32))
      (BitVec.ofNat 32 n)) (ix2 0 0) = BitVec.ofNat 32 (front m n 128) := by
    refine rowSum_at fun l => floorDivW_at _ _ ?_ ?_ hn (by omega)
    · show IntOp.subi (IntOp.addi (mc (ix2 0 l)) (BitVec.ofNat 32 n)) (BitVec.ofNat 32 1) = _
      rw [hmc, addi_ofNat, sub_word (by omega)]
    · have := F.small l; omega
  have E : tryCols mc (BitVec.ofNat 32 n) nc (ix2 0 0) = BitVec.ofNat 32 (if front m n 128 ≤ 128 then min N n else N) := by
    show Scalar.select (IntOp.cmpi .sle (rowSum _ (ix2 0 0)) (BitVec.ofNat 32 128)) (IntOp.minsi (nc (ix2 0 0)) (BitVec.ofNat 32 n))
      (nc (ix2 0 0)) = _
    have := F.few
    rw [hr, e, cmpi_sle_ofNat (by simp; omega) (by simp), select_decide, min_word (by omega) (by omega)]
    split_ifs <;> rfl
  refine ⟨_, E, ?_⟩
  by_cases c : front m n 128 ≤ 128
  · rw [if_pos c]
    rcases min_choice N n with d | d <;> rw [d]
    · exact F
    · exact ⟨hn, by omega, F.small, F.none, c⟩
  · rw [if_neg c]; exact F

theorem cols_fits (h : Counts c cs) : ∃ n, cols c (ix2 0 0) = BitVec.ofNat 32 n ∧ Fits (top cs) n := by
  have H := maxRow_at h
  exact tryCols_fits H (by omega) (by omega) (tryCols_fits H (by omega) (by omega) (tryCols_fits H (by omega) (by omega)
    (tryCols_fits H (by omega) (by omega) (tryCols_fits H (by omega) (by omega) (tryCols_fits H (by omega) (by omega)
      (tryCols_fits H (by omega) (by omega) (tryCols_fits H (by omega) (by omega) (cols0_fits h))))))))

/-! ## The lanes -/

variable {n : ℕ}

theorem cap_holds (h : Counts c cs) (hn : cols c (ix2 0 0) = BitVec.ofNat 32 n) (F : Fits (top cs) n) (t : Fin 32) :
    Holds (cap c) t (share (top cs) n) := fun l => by
  have hl := F.small l
  have := F.few
  have := F.pos
  have hfill : fill (cols c) (ix2 t l) = BitVec.ofNat 32 n := by pointwise [fill]; exact hn
  refine floorDiv_at _ _ _ ?_ hfill (by omega) F.pos (by omega)
  show IntOp.subi (IntOp.addi (maxTile c (ix2 t l)) (fill (cols c) (ix2 t l))) (BitVec.ofNat 32 1) = _
  rw [maxTile_holds h t l, hfill, addi_ofNat, sub_word (by omega)]

variable {m : ℕ → ℕ} {cp : Tile}

theorem start_holds {t : Fin 32} (h : Holds cp t (share m n)) : Holds (start cp) t (front m n) := fun l => by
  show IntOp.subi (cumsum cp (ix2 t l)) (cp (ix2 t l)) = _
  rw [cumsum_holds h l, h l]
  show IntOp.subi (BitVec.ofNat 32 (front m n (l + 1))) _ = _
  rw [front_succ, sub_word (by omega), Nat.add_sub_cancel]

theorem total_at (h : Holds cp 0 (share m n)) : total cp (ix2 0 0) = BitVec.ofNat 32 (front m n 128) :=
  rowSum_at fun l => by pointwise; exact h l

theorem passed_holds {t : Fin 32} {gs : Tile} (F : Fits m n) (h : Holds cp t (share m n)) (hg : Holds gs t (front m n)) (b : ℕ) (hb : b ≤ 32) :
    Holds (passed gs cp b hb) t fun l => #{v ∈ range b | front m n (v + 1) ≤ l} := by
  induction b with
  | zero => exact fun l => rfl
  | succ b ih =>
    intro l
    have hl := l.isLt
    have hf := (front_mono (m := m) (n := n) hb).trans (front_32_le F)
    have e1 := hg ⟨b, by omega⟩
    have e2 := h ⟨b, by omega⟩
    rw [passed_succ]
    pointwise [lanes]
    rw [ih (by omega) l, e1, e2, addi_ofNat, ← front_succ, cmpi_sge_ofNat (by simp; omega) (by simp; omega)]
    beta_reduce
    rw [card_filter, card_filter, sum_range_succ]
    by_cases d : front m n (b + 1) ≤ l
    · rw [decide_eq_true d, if_pos d]; exact addi_ofNat _ 1
    · rw [decide_eq_false d, if_neg d]; exact addi_ofNat _ 0

theorem label_holds {t : Fin 32} {gs : Tile} (F : Fits m n) (h : Holds cp t (share m n)) (hg : Holds gs t (front m n)) :
    Holds (label gs cp) t (group m n) := fun l => by
  show IntOp.minsi (passed gs cp 32 le_rfl (ix2 t l)) (BitVec.ofNat 32 31) = _
  have hc : #{v ∈ range 32 | front m n (v + 1) ≤ (l : ℕ)} ≤ 32 := (card_filter_le _ _).trans (card_range 32).le
  rw [passed_holds F h hg]
  exact min_word (a := #{v ∈ range 32 | front m n (v + 1) ≤ (l : ℕ)}) (by omega) (by omega)

theorem take_holds {x idx : Tile} {t : Fin 32} {a b : ℕ → ℕ} (hx : Holds x t a) (hi : Holds idx t b)
    (hb : ∀ l < 128, b l < 128) : Holds (take x idx) t fun l => a (b l) := fun l => by
  pointwise [take, wrap]
  have h := wrap_word (hb l l.isLt)
  rw [← hi l] at h
  exact (congrArg (fun i => x (ix2 t i)) (Fin.ext h)).trans (hx ⟨b l, hb l l.isLt⟩)

end Cert.Obs

end
-- ==== Proof.K.Extremes.lean ====
/- Smallest and largest values over sets of places, as the kernel keeps them: a pair of extended reals that is the
   infimum and the supremum of the values over a set. Folding pairs unites the sets; adding infinity to the one and
   taking it from the other makes the set empty. -/
module

public import Mathlib.Data.EReal.Operations
public import Mathlib.Order.ConditionallyCompleteLattice.Finset

@[expose] public section

noncomputable section

namespace Cert.Obs

variable {ι : Type} {f : ι → EReal} {S T : Set ι}

/-- The pair holds the smallest and the largest value of `f` over `S`. -/
structure Has (f : ι → EReal) (S : Set ι) (lo hi : EReal) : Prop where
  low : lo = ⨅ c ∈ S, f c
  high : hi = ⨆ c ∈ S, f c

variable {a b a' b' : EReal}

theorem Has.empty : Has f ∅ ⊤ ⊥ := ⟨by simp, by simp⟩

theorem Has.union (h : Has f S a b) (h' : Has f T a' b') : Has f (S ∪ T) (min a a') (max b b') :=
  ⟨by rw [h.low, h'.low, iInf_union], by rw [h.high, h'.high, iSup_union]⟩

theorem Has.congr (h : Has f S a b) (e : S = T) : Has f T a b := e ▸ h

theorem Has.single (c : ι) : Has f {c} (f c) (f c) := ⟨by simp, by simp⟩

theorem sub_top (x : EReal) : x - ⊤ = ⊥ := by rw [sub_eq_add_neg, EReal.neg_top, EReal.add_bot]

/-- A value taken in when `p` holds, and left out by infinity otherwise. -/
theorem Has.padded (c : ι) (hc : f c ≠ ⊥) (p : Prop) [Decidable p] :
    Has f {c' | p ∧ c' = c} (f c + if p then 0 else ⊤) (f c - if p then 0 else ⊤) := by
  by_cases h : p
  · rw [if_pos h, add_zero, sub_zero]
    exact (Has.single c).congr (by ext; simp [h])
  · rw [if_neg h, EReal.add_top_of_ne_bot hc, sub_top]
    exact Has.empty.congr (by ext; simp [h])

/-- Over finitely many places the smallest value is one of them, so it isn't minus infinity. -/
theorem Has.ne_bot [Finite ι] (h : Has f S a b) (hf : ∀ c, f c ≠ ⊥) : a ≠ ⊥ := by
  rw [h.low, iInf_subtype']
  rcases isEmpty_or_nonempty S with he | hn
  · rw [iInf_of_empty]; exact top_ne_bot
  · obtain ⟨c, e⟩ := exists_eq_ciInf_of_finite (f := fun c : S => f c)
    rw [← e]; exact hf c

/-- A whole set kept when `p` holds, which it does unless the set wanted is empty. -/
theorem Has.kept [Finite ι] (h : Has f S a b) (hf : ∀ c, f c ≠ ⊥) (p : Prop) [Decidable p] (h1 : p → S = T) (h0 : ¬p → T = ∅) :
    Has f T (a + if p then 0 else ⊤) (b - if p then 0 else ⊤) := by
  by_cases d : p
  · rw [if_pos d, add_zero, sub_zero]; exact h.congr (h1 d)
  · rw [if_neg d, EReal.add_top_of_ne_bot (h.ne_bot hf), sub_top, h0 d]; exact Has.empty

end Cert.Obs

end
-- ==== Proof.K.Columns.lean ====
/- The gather loop: after all its trips every lane holds the smallest and the largest of the entries it has read, and
   these are entries of its own group. -/
module

public import proofs.«01_k».proof.Proof.K.Layout
public import proofs.«01_k».proof.Proof.K.Extremes

@[expose] public section

set_option maxRecDepth 16384

noncomputable section

namespace Cert.Obs

open Idealize.ShloMosaic Idealize.ShloMosaic.WordCmp Cert.KernelIdeal

/-- The tables of one set of keys, with the number of columns their counts settle on. -/
structure Keyed (g : Tile) (κ : Fin 32 → ℕ → ℕ) (m : ℕ → ℕ) (n : ℕ) : Prop where
  holds : ∀ t, Holds g t (κ t)
  lt : ∀ t, ∀ l < 128, κ t l < 32
  caps : ∀ t, Holds (cap (cntT g)) t (share m n)
  tops : ∀ t, Holds (maxTile (cntT g)) t m
  columns : cols (cntT g) (ix2 0 0) = BitVec.ofNat 32 n
  fits : Fits m n
  le : ∀ t, ∀ v < 32, number (κ t) v ≤ m v
  none : ∀ v, m v = 0 → ∀ t, ∀ l < 128, κ t l ≠ v

theorem exists_keyed {g : Tile} {κ : Fin 32 → ℕ → ℕ} (hg : ∀ t, Holds g t (κ t)) (hκ : ∀ t, ∀ l < 128, κ t l < 32) :
    ∃ m n, Keyed g κ m n := by
  have h : Counts (cntT g) fun t v => if v < 32 then number (κ t) v else 0 := by
    refine ⟨fun t => cntT_holds (hg t) (hκ t), fun t v => ?_, fun t v hv => if_neg (not_lt.2 hv), ?_⟩
    · split_ifs
      · exact number_le _ _
      · omega
    · have hv := hκ 0 0 (by omega)
      refine lt_of_lt_of_le ?_ (Finset.single_le_sum (fun _ _ => Nat.zero_le _)
        (Finset.mem_range.2 (show κ 0 0 < 128 by omega)))
      refine lt_of_lt_of_le ?_ (le_top _ 0 _)
      rw [if_pos hv]
      exact number_pos _ (by omega)
  obtain ⟨n, hn, F⟩ := cols_fits h
  have hle : ∀ t, ∀ v < 32, number (κ t) v ≤ top (fun t v => if v < 32 then number (κ t) v else 0) v := fun t v hv => by
    have := le_top (fun t v => if v < 32 then number (κ t) v else 0) t v
    rwa [if_pos hv] at this
  refine ⟨_, n, hg, hκ, cap_holds h hn F, maxTile_holds h, hn, F, hle, fun v hv t l hl e => ?_⟩
  have h1 := hle t (κ t l) (hκ t l hl)
  have h2 := number_pos (κ t) hl
  rw [e, hv] at h1
  rw [e] at h2
  omega

variable {g : Tile} {κ : Fin 32 → ℕ → ℕ} {m : ℕ → ℕ} {n : ℕ}

theorem Keyed.start' (h : Keyed g κ m n) (t : Fin 32) : Holds (start (cap (cntT g))) t (front m n) := start_holds (h.caps t)

theorem Keyed.labels' (h : Keyed g κ m n) (t : Fin 32) : Holds (labels (cntT g)) t (group m n) :=
  label_holds h.fits (h.caps t) (h.start' t)

/-- What the loop reads besides the input. -/
theorem Keyed.trips' (h : Keyed g κ m n) : trips (cntT g) = BitVec.ofNat 32 n := by
  pointwise [trips]; exact h.columns

theorem Keyed.place' (h : Keyed g κ m n) (t : Fin 32) {j : ℕ} (hj : j < n) :
    Holds ((plan (invT g) (offsT g) (cntT g)).place (BitVec.ofNat 32 j)) t (slot m n j) := fun l => by
  have hg : ∀ l < 128, group m n l < 128 := fun l _ => (group_lt l).trans (by omega)
  show IntOp.addi (IntOp.muli (BitVec.ofNat 32 j) (take (cap (cntT g)) (labels (cntT g)) (ix2 t l)))
    (IntOp.subi (lanes (ix2 t l)) (take (start (cap (cntT g))) (labels (cntT g)) (ix2 t l))) = _
  rw [take_holds (h.caps t) (h.labels' t) hg l, take_holds (h.start' t) (h.labels' t) hg l, lanes_at]
  beta_reduce
  rw [sub_word (front_group_le _), muli_ofNat, addi_ofNat]
  rfl

theorem Keyed.slot_lt' (h : Keyed g κ m n) {j l : ℕ} (hj : j < n) (hl : l < 128) : slot m n j l < 4096 * 128 + 128 := by
  have h1 := (share_le h.fits.pos (group m n l)).trans (h.fits.small _)
  have h2 := Nat.mul_le_mul (hj.le.trans h.fits.few) h1
  unfold slot; omega

theorem Keyed.offs' (h : Keyed g κ m n) (t : Fin 32) :
    Holds (plan (invT g) (offsT g) (cntT g)).offs t fun l => smaller (κ t) (group m n l) := by
  refine Holds.congr (take_holds (offsT_holds (h.holds t) (h.lt t)) (h.labels' t) fun l _ => (group_lt l).trans (by omega))
    fun l _ => ?_
  exact if_pos (group_lt l)

theorem Keyed.cnt' (h : Keyed g κ m n) (t : Fin 32) :
    Holds (plan (invT g) (offsT g) (cntT g)).cnt t fun l => number (κ t) (group m n l) := by
  refine Holds.congr (take_holds (cntT_holds (h.holds t) (h.lt t)) (h.labels' t) fun l _ => (group_lt l).trans (by omega))
    fun l _ => ?_
  exact if_pos (group_lt l)

theorem Keyed.index' (h : Keyed g κ m n) (t : Fin 32) {j : ℕ} (hj : j < n) :
    Holds ((plan (invT g) (offsT g) (cntT g)).index (BitVec.ofNat 32 j)) t (source m n (κ t) j) := by
  refine Holds.congr (take_holds (a := atPlace (κ t)) (b := fun l => min 127 (smaller (κ t) (group m n l) + slot m n j l))
    (invT_holds (h.holds t) (h.lt t)) (fun l => ?_) fun l _ => ?_) fun l _ => rfl
  swap
  · exact (min_le_left _ _).trans_lt (by omega)
  have h1 := smaller_le (κ t) (group m n l)
  have h2 := h.slot_lt' hj l.isLt
  show IntOp.minsi (BitVec.ofNat 32 127) (IntOp.maxsi (BitVec.ofNat 32 0)
    (IntOp.addi ((plan (invT g) (offsT g) (cntT g)).offs (ix2 t l))
      ((plan (invT g) (offsT g) (cntT g)).place (BitVec.ofNat 32 j) (ix2 t l)))) = _
  rw [h.offs' t l, h.place' t hj l]
  beta_reduce
  rw [addi_ofNat, max_word (by omega) (by omega), Nat.zero_max, min_word (by omega) (by omega)]

theorem Keyed.pad' (h : Keyed g κ m n) (t : Fin 32) {j : ℕ} (hj : j < n) (l : Fin 128) :
    (plan (invT g) (offsT g) (cntT g)).pad (F := Ideal) (BitVec.ofNat 32 j) (ix2 t l)
      = if Valid m n (κ t) j l then 0 else ⊤ := by
  have h1 := number_le (κ t) (group m n l)
  have h2 := h.slot_lt' hj l.isLt
  have h3 := front_32_le h.fits
  have hl := l.isLt
  have ht : fill (total (cap (cntT g))) (ix2 t l) = BitVec.ofNat 32 (front m n 32) := by
    pointwise [fill]
    rw [total_at (h.caps 0), front_32 h.fits.pos h.fits.none]
  show Scalar.select (IntOp.andi
      (IntOp.cmpi .slt ((plan (invT g) (offsT g) (cntT g)).place (BitVec.ofNat 32 j) (ix2 t l))
        ((plan (invT g) (offsT g) (cntT g)).cnt (ix2 t l)))
      (IntOp.cmpi .slt (lanes (ix2 t l)) (fill (total (cap (cntT g))) (ix2 t l))))
    (Ideal.ofBits .f32 0x00000000#32) (Ideal.ofBits .f32 0x7F800000#32) = _
  rw [h.place' t hj l, h.cnt' t l, ht, lanes_at]
  beta_reduce
  rw [cmpi_slt_ofNat (by simp; omega) (by simp; omega),
    cmpi_slt_ofNat (by simp; omega) (by simp; omega), andi_ofBool, ← Bool.decide_and, select_decide,
    show Ideal.ofBits .f32 0x00000000#32 = 0 by simp [Ideal.ofBits, Ideal.ieee],
    show Ideal.ofBits .f32 0x7F800000#32 = ⊤ by simp [Ideal.ofBits, Ideal.ieee]]
  rfl

/-! ## The loop -/

theorem takeRows_at (x : Rows Ideal) {idx : Tile} {t : ℕ} (ht : t < 32) {a : ℕ → ℕ} (hi : Holds idx ⟨t, ht⟩ a)
    (ha : ∀ l < 128, a l < 128) (r : Fin 1024) (l : Fin 128) :
    takeRows x (spread t ht idx) (ix2 r l) = x (ix2 r ⟨a l, ha l l.isLt⟩) := by
  pointwise [takeRows, spread, wrap]
  have h := wrap_word (ha l l.isLt)
  rw [← hi l] at h
  exact congrArg (fun i => x (ix2 r i)) (Fin.ext h)

theorem spread_at {α : Type} (x : S32x128.Idx → α) {t : ℕ} (ht : t < 32) (r : Fin 1024) (l : Fin 128) :
    spread t ht x (ix2 r l) = x (ix2 ⟨t, ht⟩ l) := by pointwise [spread]

/-- The places lane `l` reads in column `j`. -/
def Reads (m : ℕ → ℕ) (n : ℕ) (κ : Fin 32 → ℕ → ℕ) (j l : ℕ) : Set (Fin 32 × Fin 128) :=
  {c | Valid m n (κ c.1) j l ∧ (c.2 : ℕ) = source m n (κ c.1) j l}

/-- The entries of a row of column tiles. -/
def entry (x : (t : ℕ) → t < 32 → Rows Ideal) (r : Fin 1024) (c : Fin 32 × Fin 128) : EReal := x c.1 c.1.isLt (ix2 r c.2)

theorem foldTiles_has (h : Keyed g κ m n) {j : ℕ} (hj : j < n) (x : (t : ℕ) → t < 32 → Rows Ideal) (r : Fin 1024)
    (hx : ∀ c, entry x r c ≠ ⊥) (acc : Rows Ideal × Rows Ideal) (l : Fin 128) {S : Set (Fin 32 × Fin 128)}
    (hS : Has (entry x r) S (acc.1 (ix2 r l)) (acc.2 (ix2 r l))) (b : ℕ) (hb : b ≤ 32) :
    Has (entry x r) (S ∪ {c | c ∈ Reads m n κ j l ∧ (c.1 : ℕ) < b})
      ((foldTiles ((plan (invT g) (offsT g) (cntT g)).index (BitVec.ofNat 32 j))
        ((plan (invT g) (offsT g) (cntT g)).pad (BitVec.ofNat 32 j)) x acc b hb).1 (ix2 r l))
      ((foldTiles ((plan (invT g) (offsT g) (cntT g)).index (BitVec.ofNat 32 j))
        ((plan (invT g) (offsT g) (cntT g)).pad (BitVec.ofNat 32 j)) x acc b hb).2 (ix2 r l)) := by
  induction b with
  | zero => exact hS.congr (by ext; simp)
  | succ b ih =>
    have hb' : b < 32 := hb
    rw [foldTiles_succ]
    have h2 := Has.padded (f := entry x r) (⟨b, hb'⟩, ⟨source m n (κ ⟨b, hb'⟩) j l, source_lt _ _⟩) (hx _)
      (Valid m n (κ ⟨b, hb'⟩) j l)
    have h3 := (ih (Nat.le_of_succ_le hb)).union h2
    rw [← h.pad' ⟨b, hb'⟩ hj l, ← spread_at ((plan (invT g) (offsT g) (cntT g)).pad (F := Ideal) (BitVec.ofNat 32 j)) hb' r l] at h3
    unfold entry at h3
    rw [← takeRows_at (x b hb') hb' (h.index' ⟨b, hb'⟩ hj) (fun _ _ => source_lt _ _) r l] at h3
    refine h3.congr ?_
    ext c
    obtain ⟨t, s⟩ := c
    simp only [Set.mem_union, Set.mem_setOf_eq, Reads, Prod.mk.injEq, or_assoc]
    refine or_congr_right ⟨?_, ?_⟩
    · rintro (⟨hr, ht⟩ | ⟨hv, rfl, rfl⟩)
      · exact ⟨hr, by omega⟩
      · exact ⟨⟨hv, rfl⟩, Nat.lt_succ_self b⟩
    · rintro ⟨⟨hv, hs⟩, ht⟩
      rcases Nat.lt_succ_iff_lt_or_eq.1 ht with ht | ht
      · exact .inl ⟨⟨hv, hs⟩, ht⟩
      · obtain rfl : t = ⟨b, hb'⟩ := Fin.ext ht
        exact .inr ⟨hv, rfl, Fin.ext hs⟩

theorem iv_word (j : ℕ) : Scf.iv 0#32 1#32 j = BitVec.ofNat 32 j := by
  unfold Scf.iv; rw [BitVec.mul_one, BitVec.zero_add]

/-- After `b` trips every lane holds the extremes of what it has read in the columns below `b`. -/
theorem loop_has (h : Keyed g κ m n) (x : (t : ℕ) → t < 32 → Rows Ideal) (r : Fin 1024) (hx : ∀ c, entry x r c ≠ ⊥)
    (l : Fin 128) (b : ℕ) (hb : b ≤ n) :
    Has (entry x r) {c | ∃ j < b, c ∈ Reads m n κ j l}
      ((loop (plan (invT g) (offsT g) (cntT g)) x b).1 (ix2 r l))
      ((loop (plan (invT g) (offsT g) (cntT g)) x b).2 (ix2 r l)) := by
  induction b with
  | zero =>
    have e1 : Ideal.ofBits .f32 0x7F800000#32 = ⊤ := by simp [Ideal.ofBits, Ideal.ieee]
    have e2 : Ideal.ofBits .f32 0xFF800000#32 = ⊥ := by simp [Ideal.ofBits, Ideal.ieee]
    show Has (entry x r) _ (Ideal.ofBits .f32 0x7F800000#32) (Ideal.ofBits .f32 0xFF800000#32)
    rw [e1, e2]
    exact Has.empty.congr (by ext; simp)
  | succ b ih =>
    rw [loop_succ, iv_word]
    refine (foldTiles_has h (Nat.lt_of_succ_le hb) x r hx _ l (ih (Nat.le_of_succ_le hb)) 32 le_rfl).congr ?_
    ext c
    simp only [Set.mem_union, Set.mem_setOf_eq, c.1.isLt, and_true]
    refine ⟨?_, ?_⟩
    · rintro (⟨j, hj, hr⟩ | hr)
      · exact ⟨j, by omega, hr⟩
      · exact ⟨b, by omega, hr⟩
    · rintro ⟨j, hj, hr⟩
      rcases Nat.lt_succ_iff_lt_or_eq.1 hj with hj | rfl
      · exact .inl ⟨j, hj, hr⟩
      · exact .inr hr

end Cert.Obs

end
-- ==== Proof.K.Scan.lean ====
/- The segmented scan: after it every lane holds the extremes of all the lanes of its group up to itself, so the last
   lane of a group holds the extremes of the whole group. -/
module

public import proofs.«01_k».proof.Proof.K.Columns

@[expose] public section

set_option maxRecDepth 16384

noncomputable section

namespace Cert.Obs

open Idealize.ShloMosaic Idealize.ShloMosaic.WordCmp Cert.KernelIdeal

variable {m : ℕ → ℕ} {n : ℕ} {ι : Type}

/-- What the `w` lanes that end at `l` hold, of those in its group. -/
def Span (m : ℕ → ℕ) (n : ℕ) (S : ℕ → Set ι) (w l : ℕ) : Set ι :=
  {c | ∃ l' ≤ l, l < l' + w ∧ group m n l' = group m n l ∧ c ∈ S l'}

/-- The lane that is looked at. -/
def mate (m : ℕ → ℕ) (n w l : ℕ) : ℕ := if w ≤ l ∧ group m n (l - w) = group m n l then l - w else l

theorem mate_lt {w l : ℕ} (hl : l < 128) : mate m n w l < 128 := by unfold mate; split_ifs <;> omega

theorem span_double (S : ℕ → Set ι) (w l : ℕ) : Span m n S w l ∪ Span m n S w (mate m n w l) = Span m n S (2 * w) l := by
  ext c
  unfold mate
  by_cases h : w ≤ l ∧ group m n (l - w) = group m n l
  · rw [if_pos h]
    simp only [Span, Set.mem_union, Set.mem_setOf_eq, h.2]
    refine ⟨?_, ?_⟩
    · rintro (⟨a, h1, h2, h3⟩ | ⟨a, h1, h2, h3⟩)
      · exact ⟨a, h1, by omega, h3⟩
      · exact ⟨a, by omega, by omega, h3⟩
    · rintro ⟨a, h1, h2, h3⟩
      by_cases d : l < a + w
      · exact .inl ⟨a, h1, d, h3⟩
      · exact .inr ⟨a, by omega, by omega, h3⟩
  · rw [if_neg h, Set.union_self]
    simp only [Span, Set.mem_setOf_eq]
    refine ⟨?_, ?_⟩
    · rintro ⟨a, h1, h2, h3⟩
      exact ⟨a, h1, by omega, h3⟩
    · rintro ⟨a, h1, h2, h3, h4⟩
      refine ⟨a, h1, ?_, h3, h4⟩
      by_contra d
      have e1 := group_mono (m := m) (n := n) (show a ≤ l - w by omega)
      have e2 := group_mono (m := m) (n := n) (Nat.sub_le l w)
      exact h ⟨by omega, by omega⟩

theorem partner_holds {lab : Tile} {t : Fin 32} (h : Holds lab t (group m n)) {w : ℕ} (hw : w < 128) :
    Holds (partner lab (BitVec.ofNat 32 w)) t (mate m n w) := fun l => by
  have hl := l.isLt
  have h2 := group_lt (m := m) (n := n) l
  show Scalar.select (IntOp.andi (IntOp.cmpi .sge (lanes (ix2 t l)) (BitVec.ofNat 32 w))
      (IntOp.cmpi .eq (dynamicRotate 1 (BitVec.ofNat 32 w) none lab Gen.rotates_S32x128_d1 (ix2 t l)) (lab (ix2 t l))))
    (IntOp.subi (lanes (ix2 t l)) (BitVec.ofNat 32 w)) (lanes (ix2 t l)) = _
  rw [lanes_at, cmpi_sge_ofNat (by simp; omega) (by simp; omega)]
  unfold mate
  by_cases c : w ≤ (l : ℕ)
  · have h1 := group_lt (m := m) (n := n) (l - w)
    rw [rotate_at lab hw t l c, h, h l]
    dsimp only
    rw [cmpi_eq_ofNat (by omega) (by omega), andi_ofBool, ← Bool.decide_and, select_decide, sub_word c]
    split_ifs <;> rfl
  · rw [decide_eq_false c, if_neg (fun d => c d.1)]
    rw [show ∀ b, IntOp.andi (BitVec.ofBool false) b = 0#1 from fun b => BitVec.zero_and]
    rfl

variable {f : ι → EReal} {S : ℕ → Set ι} {r : Fin 1024}

/-- Row `r` of a pair of tiles holds extremes over `T`. -/
def RowHas (f : ι → EReal) (r : Fin 1024) (T : ℕ → Set ι) (acc : Rows Ideal × Rows Ideal) : Prop :=
  ∀ l : Fin 128, Has f (T l) (acc.1 (ix2 r l)) (acc.2 (ix2 r l))

theorem look_has {lab : Tile} (h : Holds lab 0 (group m n)) {w : ℕ} (hw : w < 128) {acc : Rows Ideal × Rows Ideal}
    (ha : RowHas f r (Span m n S w) acc) :
    RowHas f r (Span m n S (2 * w)) (look (partner lab (BitVec.ofNat 32 w)) acc) := fun l => by
  have e := (ha l).union (ha ⟨mate m n w l, mate_lt l.isLt⟩)
  rw [← takeRows_at acc.1 (by decide) (partner_holds h hw) (fun _ => mate_lt) r l,
    ← takeRows_at acc.2 (by decide) (partner_holds h hw) (fun _ => mate_lt) r l] at e
  exact e.congr (span_double S w l)

theorem scan_has {lab : Tile} (h : Holds lab 0 (group m n)) {acc : Rows Ideal × Rows Ideal} (ha : RowHas f r S acc) :
    RowHas f r (Span m n S 128) (scan lab acc) := by
  have h1 : RowHas f r (Span m n S 1) acc := fun l => (ha l).congr (by
    ext c
    refine ⟨fun hc => ⟨l, le_rfl, Nat.lt_succ_self _, rfl, hc⟩, ?_⟩
    rintro ⟨a, h1, h2, -, hc⟩
    obtain rfl : a = l := by omega
    exact hc)
  exact look_has h (w := 64) (by omega) (look_has h (w := 32) (by omega) (look_has h (w := 16) (by omega)
    (look_has h (w := 8) (by omega) (look_has h (w := 4) (by omega) (look_has h (w := 2) (by omega)
      (look_has h (w := 1) (by omega) h1))))))

/-! ## The groups -/

variable {g : Tile} {κ : Fin 32 → ℕ → ℕ}

/-- All places with the key `v`. -/
def Members (κ : Fin 32 → ℕ → ℕ) (v : ℕ) : Set (Fin 32 × Fin 128) := {c | κ c.1 c.2 = v}

theorem span_last (h : Keyed g κ m n) {v : ℕ} (hv : v < 32) (hm : 0 < m v) :
    Span m n (fun l => {c | ∃ j < n, c ∈ Reads m n κ j l}) 128 (front m n (v + 1) - 1) = Members κ v := by
  obtain ⟨e1, e2⟩ := group_last h.fits hv hm
  have e3 := front_32_le h.fits
  ext c
  refine ⟨?_, ?_⟩
  · rintro ⟨l, -, -, hl, j, -, hr, hs⟩
    have := key_source hr
    rw [← hs, hl, e2] at this
    exact this
  · intro hc
    have hc : κ c.1 c.2 = v := hc
    obtain ⟨l, hl, j, hj, hr, hg, hs⟩ := exists_source h.fits (h.lt c.1) (h.le c.1) c.2.isLt
    have hsp := (group_spec hr.2).2
    rw [hg, hc] at hsp
    exact ⟨l, by omega, by omega, by rw [hg, e2, hc], j, hj, hr, hs.symm⟩

theorem members_empty (h : Keyed g κ m n) {v : ℕ} (hm : ¬0 < m v) : Members κ v = ∅ :=
  Set.eq_empty_iff_forall_notMem.2 fun c hc => h.none v (by omega) c.1 c.2 c.2.isLt hc

theorem lastLane_holds (h : Keyed g κ m n) (t : Fin 32) :
    Holds (lastLane (start (cap (cntT g))) (cap (cntT g))) t fun l => min 127 (front m n (l + 1) - 1) := fun l => by
  beta_reduce
  have hf : front m n (l + 1) ≤ 128 := (front_mono (m := m) (n := n) (show (l : ℕ) + 1 ≤ 128 from l.isLt)).trans h.fits.sum
  show IntOp.minsi (BitVec.ofNat 32 127) (IntOp.maxsi (BitVec.ofNat 32 0)
    (IntOp.subi (IntOp.addi (start (cap (cntT g)) (ix2 t l)) (cap (cntT g) (ix2 t l))) (BitVec.ofNat 32 1))) = _
  rw [h.start' t l, h.caps t l, addi_ofNat, ← front_succ]
  by_cases c : 1 ≤ front m n (l + 1)
  · rw [sub_word c, max_word (by omega) (by omega), Nat.zero_max, min_word (by omega) (by omega)]
  · rw [show front m n (l + 1) = 0 by omega]; rfl

theorem emptyPad_at (h : Keyed g κ m n) (t : Fin 32) (l : Fin 128) (hl : (l : ℕ) < 32) :
    emptyPad (F := Ideal) (maxTile (cntT g)) (ix2 t l) = if 0 < m l then 0 else ⊤ := by
  have hs := h.fits.small l
  show Scalar.select (IntOp.andi (IntOp.cmpi .slt (lanes (ix2 t l)) (BitVec.ofNat 32 32))
      (IntOp.cmpi .sgt (maxTile (cntT g) (ix2 t l)) (BitVec.ofNat 32 0)))
    (Ideal.ofBits .f32 0x00000000#32) (Ideal.ofBits .f32 0x7F800000#32) = _
  rw [lanes_at, h.tops t l, cmpi_slt_ofNat (by simp; omega) (by simp), cmpi_sgt_ofNat (by simp; omega) (by simp),
    decide_eq_true hl, andi_ofBool, Bool.true_and, select_decide,
    show Ideal.ofBits .f32 0x00000000#32 = 0 by simp [Ideal.ofBits, Ideal.ieee],
    show Ideal.ofBits .f32 0x7F800000#32 = ⊤ by simp [Ideal.ofBits, Ideal.ieee]]

theorem lowest_at (gs cp mx : Tile) (acc : Rows Ideal) (r : Fin 1024) (v : Fin 32) :
    lowest gs cp mx acc (ix2 r v) = min (takeRows acc (spread 0 (by decide) (lastLane gs cp)) (ix2 r ⟨v, by omega⟩)
      + spread 0 (by decide) (emptyPad (F := Ideal) mx) (ix2 r ⟨v, by omega⟩)) 0 := by
  pointwise [lowest]

theorem highest_at (gs cp mx : Tile) (acc : Rows Ideal) (r : Fin 1024) (v : Fin 32) :
    highest gs cp mx acc (ix2 r v) = max (takeRows acc (spread 0 (by decide) (lastLane gs cp)) (ix2 r ⟨v, by omega⟩)
      - spread 0 (by decide) (emptyPad (F := Ideal) mx) (ix2 r ⟨v, by omega⟩)) 0 := by
  pointwise [highest]

/-- The extremes of the groups, as the kernel takes them from the extremes of the lanes. -/
theorem lowHigh_has (h : Keyed g κ m n) (x : (t : ℕ) → t < 32 → Rows Ideal) (r : Fin 1024) (hx : ∀ c, entry x r c ≠ ⊥)
    {N : ℕ} (hN : N = n) (v : Fin 32) :
    ∃ lo hi, Has (entry x r) (Members κ v) lo hi
      ∧ low (cntT g) (scan (labels (cntT g)) (loop (plan (invT g) (offsT g) (cntT g)) x N)) (ix2 r v) = min lo 0
      ∧ high (cntT g) (scan (labels (cntT g)) (loop (plan (invT g) (offsT g) (cntT g)) x N)) (ix2 r v) = max hi 0 := by
  subst hN
  have hv := v.isLt
  have hs := scan_has (f := entry x r) (r := r) (S := fun l => {c | ∃ j < N, c ∈ Reads m N κ j l})
    (acc := loop (plan (invT g) (offsT g) (cntT g)) x N) (h.labels' 0) (fun l => loop_has h x r hx l N le_rfl)
  have hm : ∀ l < 128, min 127 (front m N (l + 1) - 1) < 128 := fun l _ => (min_le_left _ _).trans_lt (by omega)
  have hk := Has.kept (T := Members κ v) (hs ⟨min 127 (front m N (v + 1) - 1), hm v (by omega)⟩) hx (0 < m v)
    (fun d => by
      have := (group_last h.fits hv d).1
      have := front_32_le h.fits
      rw [← span_last h hv d]
      simp only [min_eq_right (show front m N (v + 1) - 1 ≤ 127 by omega)])
    (members_empty h)
  refine ⟨_, _, hk, ?_, ?_⟩
  · unfold low
    rw [lowest_at, takeRows_at _ (by decide) (lastLane_holds h 0) hm, spread_at, emptyPad_at h _ _ hv]
  · unfold high
    rw [highest_at, takeRows_at _ (by decide) (lastLane_holds h 0) hm, spread_at, emptyPad_at h _ _ hv]

end Cert.Obs

end
-- ==== Proof.K.Block.lean ====
/- The two results of a grid point in closed form: from the infimum and the supremum of a row over the columns of a
   group. -/
module

public import proofs.«01_k».proof.Proof.K.Scan
public import proofs.«01_k».proof.Proof.K.Run

@[expose] public section

set_option maxRecDepth 16384

noncomputable section

namespace Cert.Obs

open Idealize.ShloMosaic Idealize.ShloMosaic.WordCmp Cert.KernelIdeal

/-! ## The closed form -/

/-- The scale of a group whose entries have infimum `a` and supremum `b`. -/
def scaleVal (a b : EReal) : EReal :=
  max (Ideal.div (max b 0 - min a 0) (Ideal.ofBits .f32 0x437F0000#32)) (Ideal.ofBits .f32 0x34000000#32)

/-- The zero point of such a group. -/
def zeroVal (a b : EReal) : BitVec 32 :=
  FloatOps.fptosi (F := Ideal) (φ := .f32) 32 (FloatOps.minimumf (F := Ideal) (φ := .f32) (Scalar.sitofp .f32 127#32)
    (FloatOps.maximumf (F := Ideal) (φ := .f32) (Scalar.sitofp .f32 4294967168#32)
      (Ideal.liftRound Ideal.roundHalfEven (Ideal.ofBits .f32 0xC3000000#32 - Ideal.div (min a 0) (scaleVal a b)))))

/-- The columns whose word in `k` is `v`. -/
def Cols (k : Fin 4096 → BitVec 32) (v : ℕ) : Set (Fin 4096) := {c | (k c).toNat = v}

theorem scaleOf_at (lo hi : FVec Ideal S1024x32 .f32) (i : S1024x32.Idx) {a b : EReal} (ha : lo i = min a 0) (hb : hi i = max b 0) :
    scaleOf lo hi i = scaleVal a b := by
  unfold scaleVal
  rw [← ha, ← hb]
  rfl

theorem zeroOf_at (lo hi : FVec Ideal S1024x32 .f32) (i : S1024x32.Idx) {a b : EReal} (ha : lo i = min a 0) (hb : hi i = max b 0) :
    zeroOf lo hi i = zeroVal a b := by
  unfold zeroVal
  rw [← scaleOf_at lo hi i ha hb, ← ha]
  rfl

/-! ## The number of trips -/

theorem loop_trips {n : ℕ} (hn : n ≤ 4096) : (k0_t1_loop (BitVec.ofNat 32 n)).trips = n := by
  have e : (k0_t1_loop (BitVec.ofNat 32 n)).ub = BitVec.ofNat 32 n := by
    show IntOp.addi (BitVec.ofNat 32 0) (IntOp.muli (IntOp.divsi .scalar (IntOp.subi (BitVec.ofNat 32 n) (BitVec.ofNat 32 0))
      (BitVec.ofNat 32 1)) (BitVec.ofNat 32 1)) = _
    rw [sub_word (Nat.zero_le _), (div_word (by omega) (by omega) (by omega) _).1, muli_ofNat, addi_ofNat]
    simp
  show Scf.trips 0#32 (k0_t1_loop (BitVec.ofNat 32 n)).ub 1#32 = n
  rw [e]
  unfold Scf.trips
  rw [toInt_ofNat_of_lt (by omega)]
  simp

/-! ## From places in tiles to columns -/

theorem Has.image {ι ι' : Type} {f : ι → EReal} {f' : ι' → EReal} {S : Set ι} {a b : EReal} (h : Has f S a b) (e : ι → ι')
    (hf : ∀ c, f c = f' (e c)) : Has f' (e '' S) a b :=
  ⟨by rw [h.low, iInf_image]; simp only [hf], by rw [h.high, iSup_image]; simp only [hf]⟩

/-- The column of a place. -/
def column (c : Fin 32 × Fin 128) : Fin 4096 := ⟨128 * c.1 + c.2, by omega⟩

theorem entry_tile (x : Vec Ideal S1024x4096 .f32) (r : Fin 1024) (c : Fin 32 × Fin 128) :
    entry (tileAt x) r c = x (ix2 r (column c)) := by
  unfold entry tileAt VecWindow.window
  congr 1
  funext a
  fin_cases a <;> apply Fin.ext
  · show 0 + 1 * (r : ℕ) = r; omega
  · show 128 * (c.1 : ℕ) + 1 * (c.2 : ℕ) = 128 * c.1 + c.2; omega

/-- The keys of the lanes of tile `t`. -/
def keyAt (k : Fin 4096 → BitVec 32) (t : Fin 32) (l : ℕ) : ℕ := if h : l < 128 then (k (column (t, ⟨l, h⟩))).toNat else 0

theorem image_members (k : Fin 4096 → BitVec 32) (v : ℕ) : column '' Members (keyAt k) v = Cols k v := by
  ext c
  refine ⟨?_, fun hc => ⟨(⟨c / 128, by omega⟩, ⟨c % 128, by omega⟩), ?_, Fin.ext (Nat.div_add_mod _ _)⟩⟩
  · rintro ⟨d, hd, rfl⟩
    have hd : keyAt k d.1 d.2 = v := hd
    rwa [keyAt, dif_pos d.2.isLt] at hd
  · show keyAt k _ _ = v
    rw [keyAt, dif_pos (Nat.mod_lt _ (by omega))]
    exact (congrArg (fun d => (k d).toNat) (Fin.ext (Nat.div_add_mod _ _))).trans hc

/-- The results of a grid point over an input block `x`, the groups of the columns read from the tile `g`. -/
theorem block_has (k : Fin 4096 → BitVec 32) (hk : ∀ c, (k c).toNat < 32) {g : Tile} (hg : ∀ t l, g (ix2 t l) = k (column (t, l)))
    (x : Vec Ideal S1024x4096 .f32) (r : Fin 1024) (hx : ∀ c, x (ix2 r c) ≠ ⊥) (v : Fin 32) :
    ∃ a b, Has (fun c => x (ix2 r c)) (Cols k v) a b ∧ scaleBlk (invT g) (offsT g) (cntT g) x (ix2 r v) = scaleVal a b
      ∧ zeroBlk (invT g) (offsT g) (cntT g) x (ix2 r v) = zeroVal a b := by
  obtain ⟨m, n, h⟩ := exists_keyed (g := g) (κ := keyAt k)
    (fun t l => by
      show _ = BitVec.ofNat 32 (keyAt k t l)
      rw [hg, keyAt, dif_pos l.isLt, BitVec.ofNat_toNat, BitVec.setWidth_eq])
    (fun t l hl => by rw [keyAt, dif_pos hl]; exact hk _)
  have hN : tripCount (cntT g) = n := by
    unfold tripCount
    rw [h.trips']
    exact loop_trips h.fits.few
  obtain ⟨a, b, e, h1, h2⟩ := lowHigh_has h (tileAt x) r (fun c => by rw [entry_tile]; exact hx _) hN v
  exact ⟨a, b, (e.image column (entry_tile x r)).congr (image_members k v), scaleOf_at _ _ _ h1 h2, zeroOf_at _ _ _ h1 h2⟩

end Cert.Obs

end
-- ==== Proof.K.Results.lean ====
/- The result arrays of the kernel, entry by entry, from the arrays it is launched with. -/
module

public import proofs.«01_k».proof.Proof.K.Frame
public import proofs.«01_k».proof.Proof.K.Block
public import Idealize.ShloMosaic.Lib.Pipeline.Value
public import Idealize.ShloMosaic.Lib.StableHlo.Run

@[expose] public section

set_option maxRecDepth 16384

noncomputable section

namespace Cert.Obs

open Idealize.ShloMosaic Idealize.ShloMosaic.TcCoe Cert.KernelIdeal Cert.KernelIdeal.Gen

variable (m : (ℓ : Loc nD τ sig) → Buf (Elt Ideal) ℓ) (c : Dev nD)

/-! ## Where the blocks lie -/

/-- Point `t` takes the rows from `1024 t` on, all columns; the group indices are one block. -/
theorem blocks_lie : ∀ t : Fin cfg0.N, (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0))

theorem flush_all : ∀ t : Fin cfg0.N, win0_2.flush t = true ∧ win0_3.flush t = true :=
  (by decide +kernel : ∀ t : Fin grid0.N, win0_2.flush t = true ∧ win0_3.flush t = true)

theorem points : cfg0.N = 8 := N_0

/-- Row `r` of the block of point `t`. -/
def rowOf (t : Fin cfg0.N) (r : Fin 1024) : Fin 8192 := ⟨1024 * t + r, by have := t.isLt; have := points; omega⟩

/-! ## What is read -/

theorem input_at (t : Fin cfg0.N) (r : Fin 1024) (k : Fin 4096) :
    iblk m c 1 t (ix2 r k) = m ((c : Thread nD τ).loc main_arg0) (ix2 (rowOf t r) k) := by
  rw [← V_main_arg0 m c]
  show V m c main_arg0 (((cfg0.win 1).blk t).view.emb (ix2 r k)) = V m c main_arg0 _
  obtain ⟨-, ⟨e0, e1⟩, -⟩ := blocks_lie t
  congr 1
  funext a
  fin_cases a <;> apply Fin.ext
  · show win0_1.index t (0 : Fin 2) * 1024 + 1 * (r : ℕ) = 1024 * t + r; omega
  · show win0_1.index t (1 : Fin 2) * 4096 + 1 * (k : ℕ) = k; omega

theorem groups_at (t : Fin cfg0.N) (a : Fin 32) (b : Fin 128) :
    iblk m c 0 t (ix2 a b) = m ((c : Thread nD τ).loc main_arg1) (ix1 (column (a, b))) := by
  have e : V m c main_call0_v0 = shapeCast S32x128 (m ((c : Thread nD τ).loc main_arg1)) shapeCasts_S4096_S32x128 := by
    simp only [V, hostOps0]
    after_results_simp
    rfl
  have h : iblk m c 0 t (ix2 a b) = V m c main_call0_v0 (ix2 a b) := by
    show V m c main_call0_v0 (((cfg0.win 0).blk t).view.emb (ix2 a b)) = V m c main_call0_v0 (ix2 a b)
    obtain ⟨⟨e0, e1⟩, -⟩ := blocks_lie t
    congr 1
    funext d
    fin_cases d <;> apply Fin.ext
    · show win0_0.index t (0 : Fin 2) * 32 + 1 * (a : ℕ) = a; omega
    · show win0_0.index t (1 : Fin 2) * 128 + 1 * (b : ℕ) = b; omega
  rw [h, e]
  pointwise
  exact congrArg (fun d => m ((c : Thread nD τ).loc main_arg1) (ix1 d)) (Fin.ext (by
    show (a : ℕ) * 128 + b = 128 * a + b
    rw [Nat.mul_comm]))

/-! ## What is written -/

theorem scale_at (t : Fin cfg0.N) (r : Fin 1024) (v : Fin 32) :
    (dats m 0 c).arrAt 2 cfg0.N (ix2 (rowOf t r) v) = scaleBlk (invT (g0 m c)) (offsT (g0 m c)) (cntT (g0 m c)) (iblk m c 1 t) (ix2 r v) := by
  have h := (dats m 0 c).read_blk_arrAt_eq_flushed 2
    (fun t t' _ _ hne => (cfg0.win 2).disjoint_blk fun h => hne (by
      have e := (blocks_lie t).2.2.1.1; have e' := (blocks_lie t').2.2.1.1
      exact Fin.ext (by rw [← e, ← e']; exact congrFun h 0)))
    cfg0.N t t.isLt (flush_all t).1
  obtain ⟨-, -, ⟨e0, e1⟩, -⟩ := blocks_lie t
  have h := congrFun h (ix2 r v)
  have h1 : ((cfg0.win 2).blk t).view.emb (ix2 r v) = ix2 (rowOf t r) v := by
    funext d
    fin_cases d <;> apply Fin.ext
    · show win0_2.index t (0 : Fin 2) * 1024 + 1 * (r : ℕ) = 1024 * t + r; omega
    · show win0_2.index t (1 : Fin 2) * 32 + 1 * (v : ℕ) = v; omega
  refine (congrArg ((dats m 0 c).arrAt 2 cfg0.N) h1).symm.trans (h.trans ?_)
  show (dats m 0 c).after 2 t ((cfg0.win 2).xinj (grid0.coords t) (ix2 r v)) = _
  rw [after0_2]
  congr 1

theorem zero_at (t : Fin cfg0.N) (r : Fin 1024) (v : Fin 32) :
    (dats m 0 c).arrAt 3 cfg0.N (ix2 (rowOf t r) v) = zeroBlk (invT (g0 m c)) (offsT (g0 m c)) (cntT (g0 m c)) (iblk m c 1 t) (ix2 r v) := by
  have h := (dats m 0 c).read_blk_arrAt_eq_flushed 3
    (fun t t' _ _ hne => (cfg0.win 3).disjoint_blk fun h => hne (by
      have e := (blocks_lie t).2.2.2.1; have e' := (blocks_lie t').2.2.2.1
      exact Fin.ext (by rw [← e, ← e']; exact congrFun h 0)))
    cfg0.N t t.isLt (flush_all t).2
  obtain ⟨-, -, -, e0, e1⟩ := blocks_lie t
  have h := congrFun h (ix2 r v)
  have h1 : ((cfg0.win 3).blk t).view.emb (ix2 r v) = ix2 (rowOf t r) v := by
    funext d
    fin_cases d <;> apply Fin.ext
    · show win0_3.index t (0 : Fin 2) * 1024 + 1 * (r : ℕ) = 1024 * t + r; omega
    · show win0_3.index t (1 : Fin 2) * 32 + 1 * (v : ℕ) = v; omega
  refine (congrArg ((dats m 0 c).arrAt 3 cfg0.N) h1).symm.trans (h.trans ?_)
  show (dats m 0 c).after 3 t ((cfg0.win 3).xinj (grid0.coords t) (ix2 r v)) = _
  rw [after0_3]
  congr 1

/-! ## The results, entry by entry -/

theorem results (hk : ∀ i, (m ((c : Thread nD τ).loc main_arg1) i).toNat < 32) (hx : ∀ i, m ((c : Thread nD τ).loc main_arg0) i ≠ (⊥ : EReal))
    (R : Fin 8192) (v : Fin 32) :
    ∃ a b, Has (fun k => m ((c : Thread nD τ).loc main_arg0) (ix2 R k)) (Cols (fun k => m ((c : Thread nD τ).loc main_arg1) (ix1 k)) v) a b
      ∧ (dats m 0 c).arrAt 2 cfg0.N (ix2 R v) = scaleVal a b ∧ (dats m 0 c).arrAt 3 cfg0.N (ix2 R v) = zeroVal a b := by
  obtain ⟨t, r, rfl⟩ : ∃ t r, R = rowOf t r :=
    ⟨⟨R / 1024, by have := points; omega⟩, ⟨R % 1024, Nat.mod_lt _ (by omega)⟩, Fin.ext (Nat.div_add_mod _ _).symm⟩
  obtain ⟨a, b, h, h1, h2⟩ := block_has (fun k => m ((c : Thread nD τ).loc main_arg1) (ix1 k)) (fun _ => hk _) (g := g0 m c)
    (groups_at m c _) (iblk m c 1 t) r (fun k => by rw [input_at]; exact hx _) v
  simp only [input_at] at h
  exact ⟨a, b, h, (scale_at m c t r v).trans h1, (zero_at m c t r v).trans h2⟩

end Cert.Obs

end
-- ==== Proof.K.Reference.lean ====
/- The two results of the reference in the same closed form: from the infimum and the supremum of a row over the columns
   of a group. -/
module

public import proofs.«01_k».proof.Proof.Gen.ReferenceIdeal.Run
public import proofs.«01_k».proof.Proof.K.Block

@[expose] public section

set_option maxRecDepth 16384

noncomputable section

namespace Cert.Obs

open Idealize.ShloMosaic Idealize.ShloMosaic.WordCmp Cert.ReferenceIdeal Cert.ReferenceIdeal.Gen

/-- The entries of `x` spread over the groups, `fill` where the column is in another group. -/
def spreadOver (fill : BitVec 32) (x : FVec Ideal S8192x4096 .f32) (g : IVec S4096 32) : FVec Ideal S8192x4096x32 .f32 :=
  select (broadcastInDim S8192x4096x32 ![0, 1, 2] bcast_S1x4096x32_S8192x4096x32_0_1_2
      (broadcastInDim S1x4096x32 ![1, 2] bcast_S4096x32_S1x4096x32_1_2
        (cmpi .eq (broadcastInDim S4096x32 ![0, 1] bcast_S4096x1_S4096x32_0_1 (broadcastInDim S4096x1 ![0] bcast_S4096_S4096x1_0 g))
          (broadcastInDim S4096x32 ![0, 1] bcast_S1x32_S4096x32_0_1 (broadcastInDim S1x32 ![1] bcast_S32_S1x32_1 (iotaInDim S32 32 0))))))
    (broadcastInDim S8192x4096x32 ![0, 1, 2] bcast_S8192x4096x1_S8192x4096x32_0_1_2
      (broadcastInDim S8192x4096x1 ![0, 1] bcast_S8192x4096_S8192x4096x1_0_1 x))
    (broadcastInDim S8192x4096x32 ![] bcast_S_S8192x4096x32 (id (constant S_ .f32 fill)))

/-- The smallest and the largest entries of each row and group, zero not yet included. -/
def refLow (x : FVec Ideal S8192x4096 .f32) (g : IVec S4096 32) : FVec Ideal S8192x32 .f32 :=
  Host.reduce FloatOps.minimumf (spreadOver 0x7F800000#32 x g) (constant S_ .f32 0x7F800000#32) reducesTo_S8192x4096x32_S8192x32_d1 h_S_

def refHigh (x : FVec Ideal S8192x4096 .f32) (g : IVec S4096 32) : FVec Ideal S8192x32 .f32 :=
  Host.reduce FloatOps.maximumf (spreadOver 0xFF800000#32 x g) (constant S_ .f32 0xFF800000#32) reducesTo_S8192x4096x32_S8192x32_d1 h_S_

/-- A word, as a number at every index. -/
def every (b : BitVec 32) : FVec Ideal S8192x32 .f32 := broadcastInDim S8192x32 ![] bcast_S_S8192x32 (constant S_ .f32 b)

/-- The scale and the zero point, from the extremes. -/
def refScale (lo hi : FVec Ideal S8192x32 .f32) : FVec Ideal S8192x32 .f32 :=
  maximumf (Host.divf (subf (maximumf hi (every 0x00000000#32)) (minimumf lo (every 0x00000000#32))) (every 0x437F0000#32))
    (every 0x34000000#32)

def refZero (lo hi : FVec Ideal S8192x32 .f32) : IVec S8192x32 32 :=
  fptosi 32 (minimumf (broadcastInDim S8192x32 ![] bcast_S_S8192x32 (sitofp .f32 (constantI S_ 32 127#32)))
    (maximumf (broadcastInDim S8192x32 ![] bcast_S_S8192x32 (sitofp .f32 (constantI S_ 32 4294967168#32)))
      (Host.roundeven (subf (every 0xC3000000#32) (Host.divf (minimumf lo (every 0x00000000#32)) (refScale lo hi))))))

theorem refScale_at (lo hi : FVec Ideal S8192x32 .f32) (i : S8192x32.Idx) : refScale lo hi i = scaleVal (lo i) (hi i) := by
  unfold scaleVal
  rw [← show Ideal.ofBits .f32 0x00000000#32 = 0 by simp [Ideal.ofBits, Ideal.ieee]]
  rfl

theorem refZero_at (lo hi : FVec Ideal S8192x32 .f32) (i : S8192x32.Idx) : refZero lo hi i = zeroVal (lo i) (hi i) := by
  unfold zeroVal
  rw [← refScale_at, ← show Ideal.ofBits .f32 0x00000000#32 = 0 by simp [Ideal.ofBits, Ideal.ieee]]
  rfl

/-- An entry of what is reduced. -/
theorem spreadOver_at (fill : BitVec 32) (x : FVec Ideal S8192x4096 .f32) (g : IVec S4096 32) (R : Fin 8192) (c : Fin 4096) (v : Fin 32) :
    spreadOver fill x g (ix3 R c v) = if (g (ix1 c)).toNat = v then x (ix2 R c) else Ideal.ofBits .f32 fill := by
  pointwise [spreadOver]
  have e : IntOp.cmpi .eq (g (ix1 c)) (BitVec.ofNat 32 v) = BitVec.ofBool (decide ((g (ix1 c)).toNat = v)) := by
    conv_lhs => rw [show g (ix1 c) = BitVec.ofNat 32 (g (ix1 c)).toNat by simp]
    exact cmpi_eq_ofNat (g (ix1 c)).isLt (by omega)
  rw [e, select_decide]
  rfl

theorem ref_has (x : FVec Ideal S8192x4096 .f32) (g : IVec S4096 32) (R : Fin 8192) (v : Fin 32) :
    Has (fun c => x (ix2 R c)) (Cols (fun c => g (ix1 c)) v) (refLow x g (ix2 R v)) (refHigh x g (ix2 R v)) := by
  have h : S8192x4096x32.Reduces [1] S8192x32 := by decide
  have hl : ∀ c : Fin 4096, h.lift (ix2 R v) c = ix3 R c v := fun c => by funext a; fin_cases a <;> rfl
  refine ⟨?_, ?_⟩
  · unfold refLow
    rw [Host.reduce_eq_fold_single _ _ _ _ h, show constant (F := Ideal) S_ .f32 0x7F800000#32 (Shape.Idx.first h_S_) = ⊤ by
      show Ideal.ofBits .f32 0x7F800000#32 = ⊤; simp [Ideal.ofBits, Ideal.ieee]]
    refine (Finset.inf_univ_eq_iInf (spreadOver 0x7F800000#32 x g ∘ h.lift (ix2 R v))).trans (iInf_congr fun c => ?_)
    refine (congrArg (spreadOver _ x g) (hl c)).trans ((spreadOver_at _ x g R c v).trans ?_)
    by_cases hc : (g (ix1 c)).toNat = v
    · rw [if_pos hc]; exact (iInf_pos (f := fun _ => x (ix2 R c)) hc).symm
    · rw [if_neg hc]; exact (show Ideal.ofBits .f32 0x7F800000#32 = ⊤ by simp [Ideal.ofBits, Ideal.ieee]).trans (iInf_neg hc).symm
  · unfold refHigh
    rw [Host.reduce_eq_fold_single _ _ _ _ h, show constant (F := Ideal) S_ .f32 0xFF800000#32 (Shape.Idx.first h_S_) = ⊥ by
      show Ideal.ofBits .f32 0xFF800000#32 = ⊥; simp [Ideal.ofBits, Ideal.ieee]]
    refine (Finset.sup_univ_eq_iSup (spreadOver 0xFF800000#32 x g ∘ h.lift (ix2 R v))).trans (iSup_congr fun c => ?_)
    refine (congrArg (spreadOver _ x g) (hl c)).trans ((spreadOver_at _ x g R c v).trans ?_)
    by_cases hc : (g (ix1 c)).toNat = v
    · rw [if_pos hc]; exact (iSup_pos (f := fun _ => x (ix2 R c)) hc).symm
    · rw [if_neg hc]; exact (show Ideal.ofBits .f32 0xFF800000#32 = ⊥ by simp [Ideal.ofBits, Ideal.ieee]).trans (iSup_neg hc).symm

end Cert.Obs

end
-- ==== Proof.K.Precondition.lean ====
/- What the precondition gives: every group index is a word below 32 and no entry is minus infinity. -/
module

public import proofs.«01_k».proof.Defs
public import Idealize.ShloMosaic.Lib.ReduceAll
public import Idealize.ShloMosaic.Lib.Affine
public import Idealize.ShloMosaic.Lib.Pointwise

@[expose] public section

set_option maxRecDepth 16384

noncomputable section

namespace Cert.Obs

open Idealize.ShloMosaic Cert.Pre_in_range

instance rangeFacts : Cert.Pre_in_range.Facts where
  bcast_S_S4096 := by decide
  reducesTo_S4096_S_d0 := by decide
  h_S_ := by decide
  bcast_S_S8192x4096 := by decide
  reducesTo_S8192x4096_S_d0_1 := by decide

/-- A word at least 0 and below 32 as a signed number. -/
theorem word_range (w : BitVec 32) (h1 : IntOp.cmpi .sge w 0#32 = 1#1) (h2 : IntOp.cmpi .slt w 32#32 = 1#1) : w.toNat < 32 := by
  have h1 : BitVec.ofBool (BitVec.sle 0#32 w) = 1#1 := h1
  have h2 : BitVec.ofBool (BitVec.slt w 32#32) = 1#1 := h2
  have e1 : BitVec.sle 0#32 w = true := by cases h : BitVec.sle 0#32 w <;> simp_all
  have e2 : BitVec.slt w 32#32 = true := by cases h : BitVec.slt w 32#32 <;> simp_all
  rw [BitVec.sle_iff_toInt_le] at e1
  rw [BitVec.slt_iff_toInt_lt] at e2
  rw [show (0#32).toInt = 0 from rfl] at e1
  rw [show (32#32).toInt = 32 from rfl] at e2
  have := w.isLt
  rw [BitVec.toInt_eq_toNat_cond] at e1 e2
  split_ifs at e1 e2 <;> omega

theorem range_of (x : FVec Ideal S8192x4096 .f32) (g : IVec S4096 32) (h : Cert.Pre_in_range.fn x g = fun _ => 1#1) :
    (∀ c, (g c).toNat < 32) ∧ ∀ i, x i ≠ ⊥ := by
  have h0 := congrFun h ValueIdx.ix0
  obtain ⟨h12, h3⟩ := IntOp.andi_eq_one.1 h0
  obtain ⟨h1, h2⟩ := IntOp.andi_eq_one.1 h12
  have : Subsingleton S_.Idx := ⟨fun a b => funext fun i => i.elim0⟩
  refine ⟨fun c => word_range _ (Host.reduce_andi_all _ _ _ _ _ h1 c) (Host.reduce_andi_all _ _ _ _ _ h2 c), fun i e => ?_⟩
  have h3 := Host.reduce_andi_all _ _ _ _ _ h3 i
  have h4 : Ideal.cmp .ogt (x i) (Ideal.ofBits .f32 0xFF800000#32) = 1#1 := h3
  rw [e, show Ideal.ofBits .f32 0xFF800000#32 = ⊥ by simp [Ideal.ofBits, Ideal.ieee]] at h4
  simp [Ideal.cmp] at h4

end Cert.Obs

end
-- ==== Proof.lean ====
/- The claims about the kernel, its idealization and the reference, assembled. -/
module

public import proofs.«01_k».proof.Defs
public import proofs.«01_k».proof.Proof.K.Twin
public import proofs.«01_k».proof.Proof.K.Results
public import proofs.«01_k».proof.Proof.K.Reference
public import proofs.«01_k».proof.Proof.K.Precondition
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Obs

/-- The reference ends with its arguments unchanged and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems (by decide) r.2⟩) (Cert.ReferenceIdeal.Value.run m ρ)

/-- Both programs end with the same two arrays: entry by entry both are one function of the infimum and the supremum of a
    row over the columns of a group. -/
theorem algebraic : Cert.algebraic_KernelIdeal_ReferenceIdeal_pre_in_range := fun m ρ m' ρ' hpre hag => by
  have key : ∀ (c : Dev Cert.KernelIdeal.nD) (i : Cert.ReferenceIdeal.S8192x32.Idx),
      let x := m' ((c.tc : Thread Cert.ReferenceIdeal.nD Cert.ReferenceIdeal.τ).loc Cert.ReferenceIdeal.main_arg0)
      let g := m' ((c.tc : Thread Cert.ReferenceIdeal.nD Cert.ReferenceIdeal.τ).loc Cert.ReferenceIdeal.main_arg1)
      refScale (refLow x g) (refHigh x g) i = (dats m 0 c).arrAt 2 Cert.KernelIdeal.cfg0.N i
        ∧ refZero (refLow x g) (refHigh x g) i = (dats m 0 c).arrAt 3 Cert.KernelIdeal.cfg0.N i := by
    intro c i
    dsimp only
    obtain ⟨hk, hx⟩ := range_of _ _ (hpre c)
    obtain ⟨R, v, rfl⟩ : ∃ R v, i = ix2 R v := ⟨i 0, i 1, by funext d; fin_cases d <;> rfl⟩
    obtain ⟨a, b, h, h1, h2⟩ := results m c hk hx R v
    rw [(hag c).1, (hag c).2, refScale_at, refZero_at]
    have hr := ref_has (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) R v
    rw [hr.low.trans h.low.symm, hr.high.trans h.high.symm]
    exact ⟨h1.symm, h2.symm⟩
  refine ⟨fun c => (dats m 0 c).arrAt 2 Cert.KernelIdeal.cfg0.N, fun c => (dats m 0 c).arrAt 3 Cert.KernelIdeal.cfg0.N,
    (θ_run _ _ _).mono (fun _ h c => ⟨(h.1 c).1 2, (h.1 c).1 3, h.2 c⟩) (θ_run_and (run_main m ρ) (unchanged m ρ)), ?_⟩
  refine (θ_run _ _ _).mono (fun r h c => ⟨(h c).1.trans ?_, (h c).2.1.trans ?_, (h c).2.2⟩) (Cert.ReferenceIdeal.Value.run m' ρ')
  · exact funext fun i => (key c i).1
  · exact funext fun i => (key c i).2

theorem claim : Cert.Claim := ⟨Cert.Kernel.Gen.facts, Cert.KernelIdeal.Gen.facts, Cert.ReferenceIdeal.Gen.facts, rangeFacts,
  fun m ρ _ => frame_kernel Bits m ρ, fun m ρ _ => frame_ideal m ρ, fun m ρ _ => frame_ideal m ρ,
  fun m ρ _ => frame_reference m ρ, fun m ρ _ => frame_reference m ρ, trivial, algebraic⟩

end Cert.Proof

end
